-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norm_and_moderate_decay [hPre_plain_norm_and_moderate_decay : Cert.Pre_plain_norm_and_moderate_decay.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norm_and_moderate_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norm_and_moderate_decay [hPre_plain_norm_and_moderate_decay : Cert.Pre_plain_norm_and_moderate_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norm_and_moderate_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_plain_norm_and_moderate_decay [hKernelIdeal : Cert.KernelIdeal.Facts] [hPre_plain_norm_and_moderate_decay : Cert.Pre_plain_norm_and_moderate_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norm_and_moderate_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_plain_norm_and_moderate_decay [hReferenceIdeal : Cert.ReferenceIdeal.Facts] [hPre_plain_norm_and_moderate_decay : Cert.Pre_plain_norm_and_moderate_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norm_and_moderate_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_plain_norm_and_moderate_decay [hKernelIdeal : Cert.KernelIdeal.Facts] [hReferenceIdeal : Cert.ReferenceIdeal.Facts] [hPre_plain_norm_and_moderate_decay : Cert.Pre_plain_norm_and_moderate_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norm_and_moderate_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v48_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_plain_norm_and_moderate_decay : Cert.Pre_plain_norm_and_moderate_decay.Facts),
    quiescent_Kernel (hKernel := hKernel)
    ∧ quiescent_KernelIdeal (hKernelIdeal := hKernelIdeal)
    ∧ quiescent_KernelIdeal_pre_plain_norm_and_moderate_decay (hKernelIdeal := hKernelIdeal) (hPre_plain_norm_and_moderate_decay := hPre_plain_norm_and_moderate_decay)
    ∧ quiescent_ReferenceIdeal (hReferenceIdeal := hReferenceIdeal)
    ∧ quiescent_ReferenceIdeal_pre_plain_norm_and_moderate_decay (hReferenceIdeal := hReferenceIdeal) (hPre_plain_norm_and_moderate_decay := hPre_plain_norm_and_moderate_decay)
    ∧ preserves_Kernel_KernelIdeal
    ∧ algebraic_KernelIdeal_ReferenceIdeal_pre_plain_norm_and_moderate_decay (hKernelIdeal := hKernelIdeal) (hReferenceIdeal := hReferenceIdeal) (hPre_plain_norm_and_moderate_decay := hPre_plain_norm_and_moderate_decay)
-- ==== Pre_plain_norm_and_moderate_decay.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x16x128x1024 : Shape := ⟨4, ![4, 16, 128, 1024]⟩
abbrev S4x16x1024 : Shape := ⟨3, ![4, 16, 1024]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x16x128x1024 : S4x2048x1024.ShapeCasts S4x16x128x1024
  reducesTo_S4x16x128x1024_S4x16x1024_d2 : S4x16x128x1024.ReducesTo [2] S4x16x1024
  bcast_S_S4x16x1024 : S_.BroadcastsInDim S4x16x1024 (![] : Fin 0 → Fin S4x16x1024.rank)
  reducesTo_S4x16x1024_S_d0_1_2 : S4x16x1024.ReducesTo [0, 1, 2] S_
  dot_S4x2048x1024_S1024x1024_S4x2048x1024_2_0_01_1_n_n_wf : DotDims.WF S4x2048x1024 S1024x1024 S4x2048x1024 [2] [0] [0, 1] [1] [] []

variable [Facts]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def fn_where {F : FTy → Type} [FloatOps F] (arg0 : IVec S_ 1) (arg1 : FVec F S4x2048x1 .f32) (arg2 : FVec F S_ .f32) : FVec F S4x2048x1 .f32 :=
  let v0 : FVec F S_ .f32 := id arg2
  let v1 : FVec F S4x2048x1 .f32 := broadcastInDim S4x2048x1 ![] bcast_S_S4x2048x1 v0
  let v2 : FVec F S4x2048x1 .f32 := (fun p a b => select (broadcastInDim S4x2048x1 ![] bcast_S_S4x2048x1 p) a b) arg0 arg1 v1
  v2

def fn_var {F : FTy → Type} [FloatOps F] (arg0 : FVec F S4x2048x1024 .f32) (arg1 : IVec S_ 32) : FVec F S4x2048x1 .f32 :=
  let cst : FVec F S_ .f32 := constant S_ .f32 0x00000000#32
  let v0 : FVec F S4x2048 .f32 := (fun x v => Host.reduceAdd x v reducesTo_S4x2048x1024_S4x2048_d2 h_S_) arg0 cst
  let v1 : FVec F S4x2048x1 .f32 := broadcastInDim S4x2048x1 ![0, 1] bcast_S4x2048_S4x2048x1_0_1 v0
  let cst_0 : FVec F S_ .f32 := constant S_ .f32 0x44800000#32
  let v2 : FVec F S4x2048x1 .f32 := broadcastInDim S4x2048x1 ![] bcast_S_S4x2048x1 cst_0
  let v3 : FVec F S4x2048x1 .f32 := Host.divf v1 v2
  let v4 : FVec F S4x2048x1024 .f32 := broadcastInDim S4x2048x1024 ![0, 1, 2] bcast_S4x2048x1_S4x2048x1024_0_1_2 v3
  let v5 : FVec F S4x2048x1024 .f32 := subf arg0 v4
  let v6 : FVec F S4x2048x1024 .f32 := mulf v5 v5
  let v7 : FVec F S_ .f32 := sitofp .f32 arg1
  let cst_1 : FVec F S_ .f32 := constant S_ .f32 0x44800000#32
  let v8 : FVec F S_ .f32 := subf cst_1 v7
  let cst_2 : FVec F S_ .f32 := constant S_ .f32 0x00000000#32
  let v9 : FVec F S4x2048 .f32 := (fun x v => Host.reduceAdd x v reducesTo_S4x2048x1024_S4x2048_d2 h_S_) v6 cst_2
  let v10 : FVec F S4x2048x1 .f32 := broadcastInDim S4x2048x1 ![0, 1] bcast_S4x2048_S4x2048x1_0_1 v9
  let v11 : FVec F S4x2048x1 .f32 := broadcastInDim S4x2048x1 ![] bcast_S_S4x2048x1 v8
  let v12 : FVec F S4x2048x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S4x2048x1 .f32 := fn_where (F := F) v13 v12 cst_4
  v14

def fn_part2 {F : FTy → Type} [FloatOps F] (main_arg2 : FVec F S1024 .f32) (main_arg3 : FVec F S1024x1024 .f32) (main_arg4 : FVec F S1024x1024 .f32) (main_arg5 : FVec F S1024 .f32) (main_v10 : IVec S_ 1) (main_v19 : IVec S_ 1) (main_v31 : FVec F S4x2048x1024 .f32) (main_v33 : FVec F S4x2048x1024 .f32) : IVec S_ 1 :=
  let main_v34 : FVec F S4x2048x1024 .f32 := mulf main_v31 main_v33
  let main_v35 : FVec F S1x1x1024 .f32 := broadcastInDim S1x1x1024 ![2] bcast_S1024_S1x1x1024_2 main_arg2
  let main_v36 : FVec F S4x2048x1024 .f32 := broadcastInDim S4x2048x1024 ![0, 1, 2] bcast_S1x1x1024_S4x2048x1024_0_1_2 main_v35
  let main_v37 : FVec F S4x2048x1024 .f32 := addf main_v34 main_v36
  let main_v38 : FVec F S4x2048x1024 .f32 := (fun l r => Host.dotGeneral dot_S4x2048x1024_S1024x1024_S4x2048x1024_2_0_01_1_n_n none l r) main_v37 main_arg3
  let main_v39 : FVec F S4x2048x1024 .f32 := (fun l r => Host.dotGeneral dot_S4x2048x1024_S1024x1024_S4x2048x1024_2_0_01_1_n_n none l r) main_v38 main_arg4
  let main_v40 : FVec F S1x1x1024 .f32 := broadcastInDim S1x1x1024 ![2] bcast_S1024_S1x1x1024_2 main_arg5
  let main_v41 : FVec F S4x2048x1024 .f32 := broadcastInDim S4x2048x1024 ![0, 1, 2] bcast_S1x1x1024_S4x2048x1024_0_1_2 main_v40
  let main_v42 : FVec F S4x2048x1024 .f32 := addf main_v39 main_v41
  let main_v43 : FVec F S4x2048x1024 .f32 := Host.exp main_v42
  let main_v44 : FVec F S4x2048x1024 .f32 := Host.log1p main_v43
  let main_v45 : FVec F S4x16x128x1024 .f32 := shapeCast S4x16x128x1024 main_v44 shapeCasts_S4x2048x1024_S4x16x128x1024
  let main_cst_12 : FVec F S_ .f32 := constant S_ .f32 0x00000000#32
  let main_v46 : FVec F S4x16x1024 .f32 := (fun x v => Host.reduceAdd x v reducesTo_S4x16x128x1024_S4x16x1024_d2 h_S_) main_v45 main_cst_12
  let main_cst_13 : FVec F S_ .f32 := constant S_ .f32 0x43200000#32
  let main_v47 : FVec F S4x16x1024 .f32 := broadcastInDim S4x16x1024 ![] bcast_S_S4x16x1024 main_cst_13
  let main_v48 : IVec S4x16x1024 1 := cmpf .ole main_v46 main_v47
  let main_c_14 : IVec S_ 1 := constantI S_ 1 1#1
  let main_v49 : IVec S_ 1 := (fun x v => Host.reduce IntOp.andi x v reducesTo_S4x16x1024_S_d0_1_2 h_S_) main_v48 main_c_14
  let main_v50 : IVec S_ 1 := andi main_v10 main_v19
  let main_v51 : IVec S_ 1 := andi main_v50 main_v49
  main_v51

def fn_part1 {F : FTy → Type} [FloatOps F] (main_arg0 : FVec F S4x2048x1024 .f32) (main_arg1 : FVec F S1024 .f32) (main_arg2 : FVec F S1024 .f32) (main_arg3 : FVec F S1024x1024 .f32) (main_arg4 : FVec F S1024x1024 .f32) (main_arg5 : FVec F S1024 .f32) (main_v10 : IVec S_ 1) (main_v14 : IVec S_ 1) (main_v15 : FVec F S1024x1024 .f32) : IVec S_ 1 :=
  let main_cst_6 : FVec F S_ .f32 := constant S_ .f32 0x7F800000#32
  let main_v16 : FVec F S1024x1024 .f32 := broadcastInDim S1024x1024 ![] bcast_S_S1024x1024 main_cst_6
  let main_v17 : IVec S1024x1024 1 := cmpf .olt main_v15 main_v16
  let main_c_7 : IVec S_ 1 := constantI S_ 1 1#1
  let main_v18 : IVec S_ 1 := (fun x v => Host.reduce IntOp.andi x v reducesTo_S1024x1024_S_d0_1 h_S_) main_v17 main_c_7
  let main_v19 : IVec S_ 1 := andi main_v14 main_v18
  let main_cst_8 : FVec F S_ .f32 := constant S_ .f32 0x00000000#32
  let main_v20 : FVec F S4x2048 .f32 := (fun x v => Host.reduceAdd x v reducesTo_S4x2048x1024_S4x2048_d2 h_S_) main_arg0 main_cst_8
  let main_v21 : FVec F S4x2048x1 .f32 := broadcastInDim S4x2048x1 ![0, 1] bcast_S4x2048_S4x2048x1_0_1 main_v20
  let main_cst_9 : FVec F S_ .f32 := constant S_ .f32 0x44800000#32
  let main_v22 : FVec F S4x2048x1 .f32 := broadcastInDim S4x2048x1 ![] bcast_S_S4x2048x1 main_cst_9
  let main_v23 : FVec F S4x2048x1 .f32 := Host.divf main_v21 main_v22
  let main_c_10 : IVec S_ 32 := constantI S_ 32 0#32
  let main_v24 : FVec F S4x2048x1 .f32 := fn_var (F := F) main_arg0 main_c_10
  let main_v25 : FVec F S4x2048x1024 .f32 := broadcastInDim S4x2048x1024 ![0, 1, 2] bcast_S4x2048x1_S4x2048x1024_0_1_2 main_v23
  let main_v26 : FVec F S4x2048x1024 .f32 := subf main_arg0 main_v25
  let main_cst_11 : FVec F S_ .f32 := constant S_ .f32 0x3727C5AC#32
  let main_v27 : FVec F S4x2048x1 .f32 := broadcastInDim S4x2048x1 ![] bcast_S_S4x2048x1 main_cst_11
  let main_v28 : FVec F S4x2048x1 .f32 := addf main_v24 main_v27
  let main_v29 : FVec F S4x2048x1 .f32 := Host.sqrt main_v28
  let main_v30 : FVec F S4x2048x1024 .f32 := broadcastInDim S4x2048x1024 ![0, 1, 2] bcast_S4x2048x1_S4x2048x1024_0_1_2 main_v29
  let main_v31 : FVec F S4x2048x1024 .f32 := Host.divf main_v26 main_v30
  let main_v32 : FVec F S1x1x1024 .f32 := broadcastInDim S1x1x1024 ![2] bcast_S1024_S1x1x1024_2 main_arg1
  let main_v33 : FVec F S4x2048x1024 .f32 := broadcastInDim S4x2048x1024 ![0, 1, 2] bcast_S1x1x1024_S4x2048x1024_0_1_2 main_v32
  fn_part2 (F := F) main_arg2 main_arg3 main_arg4 main_arg5 main_v10 main_v19 main_v31 main_v33

def fn {F : FTy → Type} [FloatOps F] (main_arg0 : FVec F S4x2048x1024 .f32) (main_arg1 : FVec F S1024 .f32) (main_arg2 : FVec F S1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024x1024 .f32) (main_arg9 : FVec F S1024x1024 .f32) : IVec S_ 1 :=
  let main_cst : FVec F S_ .f32 := constant S_ .f32 0x3F800000#32
  let main_v0 : FVec F S1024 .f32 := broadcastInDim S1024 ![] bcast_S_S1024 main_cst
  let main_v1 : IVec S1024 1 := cmpf .oeq main_arg1 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oeq main_arg2 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_cst_2 : FVec F S_ .f32 := constant S_ .f32 0x00000000#32
  let main_v7 : FVec F S1024 .f32 := broadcastInDim S1024 ![] bcast_S_S1024 main_cst_2
  let main_v8 : IVec S1024 1 := cmpf .oeq main_arg5 main_v7
  let main_c_3 : IVec S_ 1 := constantI S_ 1 1#1
  let main_v9 : IVec S_ 1 := (fun x v => Host.reduce IntOp.andi x v reducesTo_S1024_S_d0 h_S_) main_v8 main_c_3
  let main_v10 : IVec S_ 1 := andi main_v6 main_v9
  let main_v11 : FVec F S1024x1024 .f32 := Host.absf main_arg6
  let main_cst_4 : FVec F S_ .f32 := constant S_ .f32 0x7F800000#32
  let main_v12 : FVec F S1024x1024 .f32 := broadcastInDim S1024x1024 ![] bcast_S_S1024x1024 main_cst_4
  let main_v13 : IVec S1024x1024 1 := cmpf .olt main_v11 main_v12
  let main_c_5 : IVec S_ 1 := constantI S_ 1 1#1
  let main_v14 : IVec S_ 1 := (fun x v => Host.reduce IntOp.andi x v reducesTo_S1024x1024_S_d0_1 h_S_) main_v13 main_c_5
  let main_v15 : FVec F S1024x1024 .f32 := Host.absf main_arg7
  fn_part1 (F := F) main_arg0 main_arg1 main_arg2 main_arg3 main_arg4 main_arg5 main_v10 main_v14 main_v15
-- ==== Kernel.lean ====
abbrev S4x2048x1024 : Shape := ⟨3, ![4, 2048, 1024]⟩
abbrev S1024 : Shape := ⟨1, ![1024]⟩
abbrev S1024x1024 : Shape := ⟨2, ![1024, 1024]⟩
abbrev S4x16x64x64 : Shape := ⟨4, ![4, 16, 64, 64]⟩
abbrev S4x256x1024 : Shape := ⟨3, ![4, 256, 1024]⟩
abbrev S4x256 : Shape := ⟨2, ![4, 256]⟩
abbrev S4x256x1 : Shape := ⟨3, ![4, 256, 1]⟩
abbrev S128x128 : Shape := ⟨2, ![128, 128]⟩
abbrev S1x128x1024 : Shape := ⟨3, ![1, 128, 1024]⟩
abbrev S128x1024 : Shape := ⟨2, ![128, 1024]⟩
abbrev S1x1024 : Shape := ⟨2, ![1, 1024]⟩
abbrev S128x64 : Shape := ⟨2, ![128, 64]⟩
abbrev S1x1x64x64 : Shape := ⟨4, ![1, 1, 64, 64]⟩
abbrev S64x64 : Shape := ⟨2, ![64, 64]⟩
abbrev S1x64 : Shape := ⟨2, ![1, 64]⟩
abbrev S64 : Shape := ⟨1, ![64]⟩
abbrev S64x1 : Shape := ⟨2, ![64, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S4x2048x1024, .f32⟩
  | .hbm, ⟨15, _⟩ => ⟨S4x16x64x64, .f32⟩
  | .local _ .vmem, ⟨0, _⟩ => ⟨S4x256x1024, .f32⟩
  | .local _ .vmem, ⟨1, _⟩ => ⟨S4x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x256x1024, .f32⟩
  | .local _ .vmem, ⟨9, _⟩ => ⟨S4x256x1024, .f32⟩
  | .local _ .vmem, ⟨10, _⟩ => ⟨S4x16x64x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x16x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S4x2048x1024 : Shape := ⟨3, ![4, 2048, 1024]⟩
abbrev S1024 : Shape := ⟨1, ![1024]⟩
abbrev S1024x1024 : Shape := ⟨2, ![1024, 1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x16x64 : Shape := ⟨4, ![4, 2048, 16, 64]⟩
abbrev S4x16x64x64 : Shape := ⟨4, ![4, 16, 64, 64]⟩
abbrev S2048x4x16x64 : Shape := ⟨4, ![2048, 4, 16, 64]⟩
abbrev S1x4x16x64 : Shape := ⟨4, ![1, 4, 16, 64]⟩
abbrev S4x16x64 : Shape := ⟨3, ![4, 16, 64]⟩
abbrev S4x16x64x1 : Shape := ⟨4, ![4, 16, 64, 1]⟩
abbrev S4x16x1x64 : Shape := ⟨4, ![4, 16, 1, 64]⟩

abbrev nBuf : Space → Nat
  | .hbm => 143
  | .vmem => 0
  | .smem => 0
  | _ => 0

abbrev hbmTy0_0 (i : Nat) : BufTy := match i % 128 with
  | 0 => ⟨S4x2048x1024, .f32⟩
  | 1 => ⟨S1024, .f32⟩
  | 2 => ⟨S1024, .f32⟩
  | 3 => ⟨S1024x1024, .f32⟩
  | 4 => ⟨S1024x1024, .f32⟩
  | 5 => ⟨S1024, .f32⟩
  | 6 => ⟨S1024x1024, .f32⟩
  | 7 => ⟨S1024x1024, .f32⟩
  | 8 => ⟨S1024x1024, .f32⟩
  | 9 => ⟨S1024x1024, .f32⟩
  | 10 => ⟨S_, .f32⟩
  | 11 => ⟨S4x2048, .f32⟩
  | 12 => ⟨S4x2048x1, .f32⟩
  | 13 => ⟨S_, .f32⟩
  | 14 => ⟨S4x2048x1, .f32⟩
  | 15 => ⟨S4x2048x1, .f32⟩
  | 16 => ⟨S_, .i32⟩
  | 17 => ⟨S_, .f32⟩
  | 18 => ⟨S4x2048, .f32⟩
  | 19 => ⟨S4x2048x1, .f32⟩
  | 20 => ⟨S_, .f32⟩
  | 21 => ⟨S4x2048x1, .f32⟩
  | 22 => ⟨S4x2048x1, .f32⟩
  | 23 => ⟨S4x2048x1024, .f32⟩
  | 24 => ⟨S4x2048x1024, .f32⟩
  | 25 => ⟨S4x2048x1024, .f32⟩
  | 26 => ⟨S_, .f32⟩
  | 27 => ⟨S_, .f32⟩
  | 28 => ⟨S_, .f32⟩
  | 29 => ⟨S_, .f32⟩
  | 30 => ⟨S4x2048, .f32⟩
  | 31 => ⟨S4x2048x1, .f32⟩
  | 32 => ⟨S4x2048x1, .f32⟩
  | 33 => ⟨S4x2048x1, .f32⟩
  | 34 => ⟨S_, .f32⟩
  | 35 => ⟨S_, .i1⟩
  | 36 => ⟨S_, .f32⟩
  | 37 => ⟨S_, .f32⟩
  | 38 => ⟨S4x2048x1, .f32⟩
  | 39 => ⟨S4x2048x1, .f32⟩
  | 40 => ⟨S4x2048x1024, .f32⟩
  | 41 => ⟨S4x2048x1024, .f32⟩
  | 42 => ⟨S_, .f32⟩
  | 43 => ⟨S4x2048x1, .f32⟩
  | 44 => ⟨S4x2048x1, .f32⟩
  | 45 => ⟨S4x2048x1, .f32⟩
  | 46 => ⟨S4x2048x1024, .f32⟩
  | 47 => ⟨S4x2048x1024, .f32⟩
  | 48 => ⟨S1x1x1024, .f32⟩
  | 49 => ⟨S4x2048x1024, .f32⟩
  | 50 => ⟨S4x2048x1024, .f32⟩
  | 51 => ⟨S1x1x1024, .f32⟩
  | 52 => ⟨S4x2048x1024, .f32⟩
  | 53 => ⟨S4x2048x1024, .f32⟩
  | 54 => ⟨S4x2048x1024, .f32⟩
  | 55 => ⟨S4x2048x1024, .f32⟩
  | 56 => ⟨S1x1x1024, .f32⟩
  | 57 => ⟨S4x2048x1024, .f32⟩
  | 58 => ⟨S4x2048x1024, .f32⟩
  | 59 => ⟨S4x2048x1024, .f32⟩
  | 60 => ⟨S4x2048x1024, .f32⟩
  | 61 => ⟨S_, .f32⟩
  | 62 => ⟨S4x2048x1024, .f32⟩
  | 63 => ⟨S4x2048x1024, .f32⟩
  | 64 => ⟨S_, .f32⟩
  | 65 => ⟨S4x2048x1024, .f32⟩
  | 66 => ⟨S4x2048x1024, .f32⟩
  | 67 => ⟨S4x2048x16x64, .f32⟩
  | 68 => ⟨S4x2048x1024, .f32⟩
  | 69 => ⟨S4x2048x16x64, .f32⟩
  | 70 => ⟨S4x2048x1024, .f32⟩
  | 71 => ⟨S4x2048x16x64, .f32⟩
  | 72 => ⟨S4x2048x1024, .f32⟩
  | 73 => ⟨S4x2048x1024, .f32⟩
  | 74 => ⟨S4x2048x1024, .f32⟩
  | 75 => ⟨S_, .f32⟩
  | 76 => ⟨S4x2048x1024, .f32⟩
  | 77 => ⟨S4x2048x1024, .f32⟩
  | 78 => ⟨S_, .f32⟩
  | 79 => ⟨S4x2048x1024, .f32⟩
  | 80 => ⟨S4x2048x1024, .f32⟩
  | 81 => ⟨S4x2048x16x64, .f32⟩
  | 82 => ⟨S_, .f32⟩
  | 83 => ⟨S4x16x64x64, .f32⟩
  | 84 => ⟨S2048x4x16x64, .f32⟩
  | 85 => ⟨S2048x4x16x64, .f32⟩
  | 86 => ⟨S2048x4x16x64, .f32⟩
  | 87 => ⟨S2048x4x16x64, .f32⟩
  | 88 => ⟨S_, .f32⟩
  | 89 => ⟨S2048x4x16x64, .f32⟩
  | 90 => ⟨S_, .i32⟩
  | 91 => ⟨S2048x4x16x64, .f32⟩
  | 92 => ⟨S2048x4x16x64, .f32⟩
  | 93 => ⟨S2048x4x16x64, .f32⟩
  | 94 => ⟨S2048x4x16x64, .f32⟩
  | 95 => ⟨S_, .i32⟩
  | 96 => ⟨S4x16x64x64, .f32⟩
  | 97 => ⟨S2048x4x16x64, .f32⟩
  | 98 => ⟨S_, .i32⟩
  | 99 => ⟨S_, .i1⟩
  | 100 => ⟨S_, .i32⟩
  | 101 => ⟨S_, .i32⟩
  | 102 => ⟨S_, .i32⟩
  | 103 => ⟨S1x4x16x64, .f32⟩
  | 104 => ⟨S4x16x64, .f32⟩
  | 105 => ⟨S_, .i32⟩
  | 106 => ⟨S_, .i32⟩
  | 107 => ⟨S_, .i32⟩
  | 108 => ⟨S1x4x16x64, .f32⟩
  | 109 => ⟨S4x16x64, .f32⟩
  | 110 => ⟨S_, .i32⟩
  | 111 => ⟨S_, .i32⟩
  | 112 => ⟨S_, .i32⟩
  | 113 => ⟨S1x4x16x64, .f32⟩
  | 114 => ⟨S4x16x64, .f32⟩
  | 115 => ⟨S_, .i32⟩
  | 116 => ⟨S_, .i32⟩
  | 117 => ⟨S_, .i32⟩
  | 118 => ⟨S1x4x16x64, .f32⟩
  | 119 => ⟨S4x16x64, .f32⟩
  | 120 => ⟨S_, .f32⟩
  | 121 => ⟨S4x16x64, .f32⟩
  | 122 => ⟨S4x16x64, .f32⟩
  | 123 => ⟨S4x16x64x1, .f32⟩
  | 124 => ⟨S4x16x64x64, .f32⟩
  | 125 => ⟨S4x16x64x64, .f32⟩
  | 126 => ⟨S4x16x64x1, .f32⟩
  | 127 => ⟨S4x16x1x64, .f32⟩
  | _ => ⟨S4x2048x1024, .f32⟩

abbrev hbmTy0_1 (i : Nat) : BufTy := match i % 128 with
  | 0 => ⟨S4x16x64x64, .f32⟩
  | 1 => ⟨S4x16x64x64, .f32⟩
  | 2 => ⟨S4x16x64x64, .f32⟩
  | 3 => ⟨S4x16x64x64, .f32⟩
  | 4 => ⟨S4x16x64, .f32⟩
  | 5 => ⟨S1x4x16x64, .f32⟩
  | 6 => ⟨S_, .i32⟩
  | 7 => ⟨S_, .i32⟩
  | 8 => ⟨S_, .i32⟩
  | 9 => ⟨S2048x4x16x64, .f32⟩
  | 10 => ⟨S_, .i32⟩
  | 11 => ⟨S_, .i32⟩
  | 12 => ⟨S4x2048x16x64, .f32⟩
  | 13 => ⟨S4x2048x1024, .f32⟩
  | 14 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_cst_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_cst_1 : Ref sig .tc := ⟨.hbm, 27, rfl⟩
abbrev main_call0_v8 : Ref sig .tc := ⟨.hbm, 28, rfl⟩
abbrev main_call0_cst_2 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst_3 : Ref sig .tc := ⟨.hbm, 34, rfl⟩
abbrev main_call0_v13 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst_1 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_cst_2 : Ref sig .tc := ⟨.hbm, 61, rfl⟩
abbrev main_v25 : Ref sig .tc := ⟨.hbm, 62, rfl⟩
abbrev main_v26 : Ref sig .tc := ⟨.hbm, 63, rfl⟩
abbrev main_cst_3 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_4 : Ref sig .tc := ⟨.hbm, 75, rfl⟩
abbrev main_v37 : Ref sig .tc := ⟨.hbm, 76, rfl⟩
abbrev main_v38 : Ref sig .tc := ⟨.hbm, 77, rfl⟩
abbrev main_cst_5 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_7 : Ref sig .tc := ⟨.hbm, 88, rfl⟩
abbrev main_v47 : Ref sig .tc := ⟨.hbm, 89, rfl⟩
abbrev main_c_8 : Ref sig .tc := ⟨.hbm, 90, rfl⟩
abbrev main_v48_0 : Ref sig .tc := ⟨.hbm, 91, rfl⟩
abbrev main_v48_1 : Ref sig .tc := ⟨.hbm, 92, rfl⟩
abbrev main_v48_2 : Ref sig .tc := ⟨.hbm, 93, rfl⟩
abbrev main_v48_3 : Ref sig .tc := ⟨.hbm, 94, rfl⟩
abbrev main_v48_4 : Ref sig .tc := ⟨.hbm, 95, rfl⟩
abbrev main_v48_5 : Ref sig .tc := ⟨.hbm, 96, rfl⟩
abbrev main_v48_6 : Ref sig .tc := ⟨.hbm, 97, rfl⟩
abbrev main_while0c_c_15 : Ref sig .tc := ⟨.hbm, 98, rfl⟩
abbrev main_while0c_v52 : Ref sig .tc := ⟨.hbm, 99, rfl⟩
abbrev main_while0b_call1_c : Ref sig .tc := ⟨.hbm, 100, rfl⟩
abbrev main_while0b_call1_c_0 : Ref sig .tc := ⟨.hbm, 101, rfl⟩
abbrev main_while0b_call1_c_1 : Ref sig .tc := ⟨.hbm, 102, rfl⟩
abbrev main_while0b_call1_v0 : Ref sig .tc := ⟨.hbm, 103, rfl⟩
abbrev main_while0b_v52 : Ref sig .tc := ⟨.hbm, 104, rfl⟩
abbrev main_while0b_call2_c : Ref sig .tc := ⟨.hbm, 105, rfl⟩
abbrev main_while0b_call2_c_0 : Ref sig .tc := ⟨.hbm, 106, rfl⟩
abbrev main_while0b_call2_c_1 : Ref sig .tc := ⟨.hbm, 107, rfl⟩
abbrev main_while0b_call2_v0 : Ref sig .tc := ⟨.hbm, 108, rfl⟩
abbrev main_while0b_v53 : Ref sig .tc := ⟨.hbm, 109, rfl⟩
abbrev main_while0b_call3_c : Ref sig .tc := ⟨.hbm, 110, rfl⟩
abbrev main_while0b_call3_c_0 : Ref sig .tc := ⟨.hbm, 111, rfl⟩
abbrev main_while0b_call3_c_1 : Ref sig .tc := ⟨.hbm, 112, rfl⟩
abbrev main_while0b_call3_v0 : Ref sig .tc := ⟨.hbm, 113, rfl⟩
abbrev main_while0b_v54 : Ref sig .tc := ⟨.hbm, 114, rfl⟩
abbrev main_while0b_call4_c : Ref sig .tc := ⟨.hbm, 115, rfl⟩
abbrev main_while0b_call4_c_0 : Ref sig .tc := ⟨.hbm, 116, rfl⟩
abbrev main_while0b_call4_c_1 : Ref sig .tc := ⟨.hbm, 117, rfl⟩
abbrev main_while0b_call4_v0 : Ref sig .tc := ⟨.hbm, 118, rfl⟩
abbrev main_while0b_v55 : Ref sig .tc := ⟨.hbm, 119, rfl⟩
abbrev main_while0b_cst_15 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_v66 : Ref sig .tc := ⟨.hbm, 131, rfl⟩
abbrev main_while0b_v67 : Ref sig .tc := ⟨.hbm, 132, rfl⟩
abbrev main_while0b_call5_v0 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_v68 : Ref sig .tc := ⟨.hbm, 137, rfl⟩
abbrev main_while0b_c_16 : Ref sig .tc := ⟨.hbm, 138, rfl⟩
abbrev main_while0b_v69 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩

abbrev nD : Nat := 1
abbrev τ : Topo := Topo.v7x

variable {F : FTy → Type} [FloatOps F]

abbrev main_while0_count : Scf.Loop 32 := ⟨0#32, 2048#32, 1#32⟩
-- ==== Proof.RefFrame.lean ====
/-
  The frame of the reference: @main launches no kernel and the program declares no semaphore, so every counter is
  zero in any state, and the arguments are unchanged by the generated run.
-/
module

public import proofs.«01_k».proof.Proof.Gen.ReferenceIdeal.Run
public import Idealize.ShloMosaic.Lib.Quiescent

@[expose] public section

noncomputable section

namespace Cert.Proof.RefFrame

open Idealize.ShloMosaic Idealize.SL.Sem Cert.ReferenceIdeal

variable {F : FTy → Type} [FloatOps F]
variable (m : (ℓ : Loc nD τ sig) → Buf (Elt F) ℓ) (ρ : Dev nD → PrngReg)

/-- The arguments end as they began and every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2.2, sem_eq_zero_of_no_sems (by decide) r.2⟩) (Value.run m ρ)

end Cert.Proof.RefFrame

end
-- ==== Proof.Body.lean ====
/-
  What the body of the kernel stores, written once for every batch, half of the block and head. The body is unrolled:
  its step `n < 128` treats batch `n / 32`, half `n / 16 % 2` and head `n % 16`.
-/
module

public import proofs.«01_k».proof.Proof.Gen.KernelIdeal.Skeleton

@[expose] public section

set_option maxRecDepth 16384

noncomputable section

namespace Cert.KernelIdeal.Body

open Idealize.ShloMosaic Cert.KernelIdeal Cert.KernelIdeal.Gen

variable {F : FTy → Type} [FloatOps F]

/-! ## The places a step reads and writes -/

theorem rowsFit (n : ℕ) : S4x256x1024.Slices ![n / 32 % 4, n / 16 % 2 * 128, 0] S1x128x1024 :=
  ⟨rfl, fun a => by
    have h1 : n / 32 % 4 < 4 := Nat.mod_lt _ (by decide)
    have h2 : n / 16 % 2 < 2 := Nat.mod_lt _ (by decide)
    fin_cases a <;> simp [S4x256x1024, S1x128x1024, Fin.cast] <;> omega⟩

theorem headFit (n : ℕ) : S128x1024.Slices ![0, n % 16 * 64] S128x64 :=
  ⟨rfl, fun a => by
    have h1 : n % 16 < 16 := Nat.mod_lt _ (by decide)
    fin_cases a <;> simp [S128x1024, S128x64, Fin.cast] <;> omega⟩

theorem headFit1 (n : ℕ) : S1x1024.Slices ![0, n % 16 * 64] S1x64 :=
  ⟨rfl, fun a => by
    have h1 : n % 16 < 16 := Nat.mod_lt _ (by decide)
    fin_cases a <;> simp [S1x1024, S1x64, Fin.cast] <;> omega⟩

theorem slotIn (n : ℕ) : ∀ a, (![n / 32 % 4, n % 16, 0, 0] : Fin 4 → ℕ) a + S1x1x64x64.size a ≤ S4x16x64x64.size a := fun a => by
  have h1 : n / 32 % 4 < 4 := Nat.mod_lt _ (by decide)
  have h2 : n % 16 < 16 := Nat.mod_lt _ (by decide)
  fin_cases a <;> simp [S4x16x64x64, S1x1x64x64] <;> omega

theorem bandIn (q : ℕ) : ∀ a, (![q / 2 % 4, q % 2 * 128, 0] : Fin 3 → ℕ) a + S1x128x1024.size a ≤ S4x256x1024.size a := fun a => by
  have h1 : q / 2 % 4 < 4 := Nat.mod_lt _ (by decide)
  have h2 : q % 2 < 2 := Nat.mod_lt _ (by decide)
  fin_cases a <;> simp [S4x256x1024, S1x128x1024] <;> omega

/-- The block of the state step `n` reads and writes. -/
abbrev slot (n : ℕ) : Rect S4x16x64x64 := Rect.unit ![n / 32 % 4, n % 16, 0, 0] S1x1x64x64.size (slotIn n)

/-- The rows of the result half-block `q` writes. -/
abbrev band (q : ℕ) : Rect S4x256x1024 := Rect.unit ![q / 2 % 4, q % 2 * 128, 0] S1x128x1024.size (bandIn q)

/-! ## The values of a step -/

/-- The 128 rows of step `n`. -/
def rows (X : FVec F S4x256x1024 .f32) (n : ℕ) : FVec F S128x1024 .f32 :=
  shapeCast S128x1024 (extractStridedSlice S1x128x1024 ![n / 32 % 4, n / 16 % 2 * 128, 0] X (rowsFit n)) shapeCasts_S1x128x1024_S128x1024

/-- The running sums of the log decay over the 128 rows. -/
def lcb (la : FVec F S4x256x1024 .f32) (n : ℕ) : FVec F S128x1024 .f32 :=
  matmul dot_S128x128_S128x1024_S128x1024_1_0_0_1_n_n none (k0_pay11 (F := F)) (rows la n) (constant S128x1024 .f32 0x00000000#32)

/-- Half of the last running sum. -/
def mb (la : FVec F S4x256x1024 .f32) (n : ℕ) : FVec F S1x1024 .f32 :=
  mulf (extractStridedSlice S1x1024 ![127, 0] (lcb la n) slices_S128x1024_o127_0_S1x1024) (broadcast S1x1024 (Scalar.ofBits .f32 0x3F000000#32))

def emb (la : FVec F S4x256x1024 .f32) (n : ℕ) : FVec F S1x1024 .f32 := exp (mb la n)

def rq (r la : FVec F S4x256x1024 .f32) (n : ℕ) : FVec F S128x1024 .f32 :=
  mulf (rows r n) (exp (minimumf (subf (lcb la n) (broadcastTo S128x1024 (mb la n) broadcasts_S1x1024_S128x1024))
    (broadcast S128x1024 (Scalar.ofBits .f32 0x42A00000#32))))

def kq (k la : FVec F S4x256x1024 .f32) (n : ℕ) : FVec F S128x1024 .f32 :=
  mulf (rows k n) (exp (minimumf (subf (broadcastTo S128x1024 (mb la n) broadcasts_S1x1024_S128x1024) (lcb la n))
    (broadcast S128x1024 (Scalar.ofBits .f32 0x42A00000#32))))

def ri (r la : FVec F S4x256x1024 .f32) (n : ℕ) : FVec F S128x1024 .f32 := mulf (rows r n) (exp (lcb la n))

def kd (k la : FVec F S4x256x1024 .f32) (n : ℕ) : FVec F S128x1024 .f32 :=
  mulf (kq k la n) (broadcastTo S128x1024 (emb la n) broadcasts_S1x1024_S128x1024)

def dl (la : FVec F S4x256x1024 .f32) (n : ℕ) : FVec F S1x1024 .f32 := mulf (emb la n) (emb la n)

/-- The 64 channels of step `n`'s head. -/
def head (X : FVec F S128x1024 .f32) (n : ℕ) : FVec F S128x64 .f32 := extractStridedSlice S128x64 ![0, n % 16 * 64] X (headFit n)

/-- What step `n` leaves in its block of the state, of what it found there. -/
def stPay (k v la : FVec F S4x256x1024 .f32) (n : ℕ) (s0 : FVec F S1x1x64x64 .f32) : FVec F S1x1x64x64 .f32 :=
  shapeCast S1x1x64x64 (addf (mulf (broadcastTo S64x64 (shapeCast S64x1 (shapeCast S64
        (extractStridedSlice S1x64 ![0, n % 16 * 64] (dl la n) (headFit1 n)) shapeCasts_S1x64_S64) shapeCasts_S64_S64x1) broadcasts_S64x1_S64x64)
      (shapeCast S64x64 s0 shapeCasts_S1x1x64x64_S64x64))
    (matmul dot_S128x64_S128x64_S64x64_0_0_1_1_n_n none (head (kd k la n) n) (head (rows v n) n) (constant S64x64 .f32 0x00000000#32)))
    shapeCasts_S64x64_S1x1x64x64

/-- The 128 rows of output step `n` makes for its head. -/
def oHead (k v r la : FVec F S4x256x1024 .f32) (n : ℕ) (s0 : FVec F S1x1x64x64 .f32) : FVec F S128x64 .f32 :=
  addf (matmul dot_S128x128_S128x64_S128x64_1_0_0_1_n_n none
      (select (k0_pay12) (matmul dot_S128x64_S128x64_S128x128_1_1_0_0_n_n none (head (rq r la n) n) (head (kq k la n) n) (constant S128x128 .f32 0x00000000#32))
        (broadcast S128x128 (Scalar.ofBits .f32 0x00000000#32)))
      (head (rows v n) n) (constant S128x64 .f32 0x00000000#32))
    (matmul dot_S128x64_S64x64_S128x64_1_0_0_1_n_n none (head (ri r la n) n) (shapeCast S64x64 s0 shapeCasts_S1x1x64x64_S64x64)
      (constant S128x64 .f32 0x00000000#32))

/-- The rows of the result, of the sixteen heads' outputs. -/
def yPay (o : ℕ → FVec F S128x64 .f32) (wo : FVec F S1024x1024 .bf16) : FVec F S1x128x1024 .f32 :=
  shapeCast S1x128x1024 (matmul dot_S128x1024_S1024x1024_S128x1024_1_0_0_1_n_n none
    (truncf .bf16 (concatenate S128x1024 1 [⟨S128x64, o 0⟩, ⟨S128x64, o 1⟩, ⟨S128x64, o 2⟩, ⟨S128x64, o 3⟩, ⟨S128x64, o 4⟩, ⟨S128x64, o 5⟩,
      ⟨S128x64, o 6⟩, ⟨S128x64, o 7⟩, ⟨S128x64, o 8⟩, ⟨S128x64, o 9⟩, ⟨S128x64, o 10⟩, ⟨S128x64, o 11⟩, ⟨S128x64, o 12⟩, ⟨S128x64, o 13⟩,
      ⟨S128x64, o 14⟩, ⟨S128x64, o 15⟩]
      concatenates_S128x64_S128x64_S128x64_S128x64_S128x64_S128x64_S128x64_S128x64_S128x64_S128x64_S128x64_S128x64_S128x64_S128x64_S128x64_S128x64_S128x1024_d1) bitsLt_bf16_f32)
    (shapeCast S1024x1024 wo shapeCasts_S1024x1024_S1024x1024) (constant S128x1024 .f32 0x00000000#32)) shapeCasts_S128x1024_S1x128x1024

/-! ## The stores of a whole run of the body -/

variable (k v r la : FVec F S4x256x1024 .f32) (wo : FVec F S1024x1024 .bf16)

/-- The stores into the state before step `n`, last first, over `base`; `rd n L` is what step `n` reads after the stores `L`. -/
def stores (base : List (View.Piece (Elt F) S4x16x64x64 .f32)) (rd : ℕ → List (View.Piece (Elt F) S4x16x64x64 .f32) → FVec F S1x1x64x64 .f32) :
    ℕ → List (View.Piece (Elt F) S4x16x64x64 .f32)
  | 0 => base
  | n + 1 => ⟨slot n, stPay k v la n (rd n (stores base rd n))⟩ :: stores base rd n

/-- The stores into the result before half-block `q`, last first; `s n` is the block of the state step `n` reads. -/
def bands (s : ℕ → FVec F S1x1x64x64 .f32) : ℕ → List (View.Piece (Elt F) S4x256x1024 .f32)
  | 0 => []
  | q + 1 => ⟨band q, yPay (fun h => oHead k v r la (16 * q + h) (s (16 * q + h))) wo⟩ :: bands s q

end Cert.KernelIdeal.Body

end
-- ==== Proof.Recur.lean ====
/-
  The recurrence of the state, over the reals, and its form over a block of consecutive steps. `L` is the log decay,
  `K`, `V`, `R` the key, value and gate of one batch and head; the first argument is the step, the second the channel.
-/
module

public import Mathlib.Analysis.SpecialFunctions.Exp
public import Mathlib.Algebra.BigOperators.Fin
public import Mathlib.Data.EReal.Operations

@[expose] public section

noncomputable section

namespace Cert.Proof.Recur

variable (L K V R : ℕ → ℕ → ℝ)

/-- The state before step `t`. -/
def st : ℕ → ℕ → ℕ → ℝ
  | 0 => fun _ _ => 0
  | t + 1 => fun d e => Real.exp (L t d) * st t d e + K t d * V t e

/-- The output of step `t`. -/
def out (t e : ℕ) : ℝ := ∑ d : Fin 64, R t d * st L K V (t + 1) d e

/-- The log decay summed over `i` steps from step `o`. -/
def cum (o i d : ℕ) : ℝ := ∑ s ∈ Finset.range i, L (o + s) d

theorem cum_succ (o i d : ℕ) : cum L o (i + 1) d = cum L o i d + L (o + i) d := Finset.sum_range_succ _ _

/-- The state after `i` steps from step `o`, of the state before them. -/
theorem st_add (o i d e : ℕ) : st L K V (o + i) d e
    = Real.exp (cum L o i d) * st L K V o d e
      + ∑ s ∈ Finset.range i, K (o + s) d * Real.exp (cum L o i d - cum L o (s + 1) d) * V (o + s) e := by
  induction i with
  | zero => simp [cum]
  | succ i ih =>
    rw [← Nat.add_assoc]
    show Real.exp (L (o + i) d) * st L K V (o + i) d e + K (o + i) d * V (o + i) e = _
    rw [ih, Finset.sum_range_succ, sub_self, Real.exp_zero, mul_one, mul_add, Finset.mul_sum, cum_succ, Real.exp_add, add_assoc]
    congr 1
    · ring
    · congr 1
      refine Finset.sum_congr rfl fun s _ => ?_
      rw [show cum L o i d + L (o + i) d - cum L o (s + 1) d = L (o + i) d + (cum L o i d - cum L o (s + 1) d) by ring, Real.exp_add]
      ring

/-- The state after a block of 128 steps, with the decay taken in two halves about `m`. -/
theorem st_block (o d e : ℕ) (m : ℝ) (hm : m = cum L o 128 d * (1 / 2)) :
    Real.exp m * Real.exp m * st L K V o d e
      + ∑ s : Fin 128, K (o + s) d * Real.exp (m - cum L o (s + 1) d) * Real.exp m * V (o + s) e
    = st L K V (o + 128) d e := by
  have h2 : cum L o 128 d = m + m := by rw [hm]; ring
  rw [st_add L K V o 128, Finset.sum_range, ← Real.exp_add, h2]
  congr 1
  refine Finset.sum_congr rfl fun s _ => ?_
  rw [show m + m - cum L o (s + 1) d = (m - cum L o (s + 1) d) + m by ring, Real.exp_add]
  ring

/-- The output of step `t` of a block, of the state before the block. -/
theorem out_block (o e : ℕ) (m : ℕ → ℝ) (t : Fin 128) :
    (∑ s : Fin 128, if (s : ℕ) ≤ t then (∑ d : Fin 64, R (o + t) d * Real.exp (cum L o (t + 1) d - m d)
        * (K (o + s) d * Real.exp (m d - cum L o (s + 1) d))) * V (o + s) e else 0)
      + ∑ d : Fin 64, R (o + t) d * Real.exp (cum L o (t + 1) d) * st L K V o d e
    = out L K V R (o + t) e := by
  have hcut : ∀ f : ℕ → ℝ, (∑ s : Fin 128, if (s : ℕ) ≤ t then f s else 0) = ∑ s ∈ Finset.range (t + 1), f s := by
    intro f
    rw [← Finset.sum_range (fun s => if s ≤ (t : ℕ) then f s else 0), ← Finset.sum_filter]
    refine Finset.sum_congr (Finset.ext fun s => ?_) fun _ _ => rfl
    have := t.isLt
    simp only [Finset.mem_filter, Finset.mem_range]
    omega
  rw [hcut (fun s => (∑ d : Fin 64, R (o + t) d * Real.exp (cum L o (t + 1) d - m d)
        * (K (o + s) d * Real.exp (m d - cum L o (s + 1) d))) * V (o + s) e)]
  unfold out
  simp only [Finset.sum_mul]
  rw [Finset.sum_comm, ← Finset.sum_add_distrib]
  refine Finset.sum_congr rfl fun d _ => ?_
  rw [show o + (t : ℕ) + 1 = o + (t + 1) from rfl, st_add L K V o (t + 1), mul_add, Finset.mul_sum, add_comm]
  congr 1
  · ring
  · refine Finset.sum_congr rfl fun s _ => ?_
    rw [show cum L o (t + 1) d - cum L o (s + 1) d = (cum L o (t + 1) d - m d) + (m d - cum L o (s + 1) d) by ring, Real.exp_add]
    ring

/-- A sum of decays that are never positive only falls. -/
theorem cum_anti (hL : ∀ t d, L t d ≤ 0) (o d : ℕ) {i j : ℕ} (h : i ≤ j) : cum L o j d ≤ cum L o i d := by
  induction j, h using Nat.le_induction with
  | base => exact le_rfl
  | succ j _ ih => rw [cum_succ]; linarith [hL (o + j) d]

/-- Where the decay over a block is at most 160 in all, both halves stay below the cut at 80. -/
theorem halves_le (hL : ∀ t d, L t d ≤ 0) (o d : ℕ) (hb : -160 ≤ cum L o 128 d) {i : ℕ} (hi : i ≤ 128) :
    cum L o i d - cum L o 128 d * (1 / 2) ≤ 80 ∧ cum L o 128 d * (1 / 2) - cum L o i d ≤ 80 := by
  have h0 : cum L o i d ≤ 0 := by simpa [cum] using cum_anti L hL o d (Nat.zero_le i)
  have h1 := cum_anti L hL o d hi
  constructor <;> linarith

/-- A sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

end Cert.Proof.Recur

end
-- ==== Proof.BodyReal.lean ====
/-
  What a step of the body computes where the keys, values, gates and log decays are reals: the state 128 steps of the
  recurrence later, and the outputs of those steps.
-/
module

public import proofs.«01_k».proof.Proof.Body
public import proofs.«01_k».proof.Proof.Recur
public import Idealize.ShloMosaic.Lib.Pointwise
public import Idealize.ShloMosaic.Lib.WordCmp

@[expose] public section

set_option maxRecDepth 16384

noncomputable section

namespace Cert.KernelIdeal.Body

open Idealize.ShloMosaic Cert.KernelIdeal Cert.KernelIdeal.Gen Cert.Proof

theorem ofBits_80 : Ideal.ofBits .f32 0x42A00000#32 = ((80 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The entry of the lower triangle of ones. -/
theorem tri_entry (t x : Fin 128) :
    (FloatOps.sitofp FTy.f32 (BitVec.setWidth 32 (IntOp.cmpi CmpIPredicate.sge (BitVec.ofNat 32 ↑t) (BitVec.ofNat 32 ↑x))) : Ideal .f32)
      = (((if (x : ℕ) ≤ t then 1 else 0 : ℝ)) : EReal) := by
  have ht := t.isLt
  have hx := x.isLt
  rw [WordCmp.cmpi_sge_ofNat (by norm_num; omega) (by norm_num; omega)]
  by_cases h : (x : ℕ) ≤ t
  · simp only [h, decide_true, if_true]
    show (((BitVec.setWidth 32 (BitVec.ofBool true)).toInt : ℝ) : EReal) = _
    rw [show (BitVec.setWidth 32 (BitVec.ofBool true)).toInt = 1 by decide]
    norm_num
  · simp only [h, decide_false, if_false]
    show (((BitVec.setWidth 32 (BitVec.ofBool false)).toInt : ℝ) : EReal) = _
    rw [show (BitVec.setWidth 32 (BitVec.ofBool false)).toInt = 0 by decide]
    norm_num

/-- `X` holds the reals `A` of 256 steps from step `o`. -/
def Holds (X : FVec Ideal S4x256x1024 .f32) (o : ℕ) (A : ℕ → ℕ → ℕ → ℝ) : Prop :=
  ∀ (b : Fin 4) (t : Fin 256) (c : Fin 1024), X (ix3 b t c) = (A b (o + t) c : EReal)

/-- The reals of one head. -/
abbrev hd (A : ℕ → ℕ → ℕ → ℝ) (n : ℕ) : ℕ → ℕ → ℝ := fun t d => A (n / 32 % 4) t (n % 16 * 64 + d)

section
variable {k v r la : FVec Ideal S4x256x1024 .f32} {o : ℕ} {K V R L : ℕ → ℕ → ℕ → ℝ}

/-- The first step of step `n`'s half block. -/
abbrev org (o n : ℕ) : ℕ := o + n / 16 % 2 * 128

theorem rows_real {X : FVec Ideal S4x256x1024 .f32} {A : ℕ → ℕ → ℕ → ℝ} (h : Holds X o A) (n : ℕ) (t : Fin 128) (c : Fin 1024) :
    rows X n (ix2 t c) = (A (n / 32 % 4) (org o n + t) c : EReal) := by
  pointwise [rows]
  rw [h]
  simp only [org, Nat.add_assoc]

theorem lcb_real (hl : Holds la o L) (n : ℕ) (t : Fin 128) (c : Fin 1024) :
    lcb la n (ix2 t c) = (Recur.cum (L (n / 32 % 4)) (org o n) (t + 1) c : EReal) := by
  pointwise [lcb, k0_pay11]
  simp only [tri_entry, rows_real hl, ← EReal.coe_mul, ← Recur.coe_sum]
  congr 1
  unfold Recur.cum
  have ht := t.isLt
  simp only [ite_mul, one_mul, zero_mul]
  rw [← Finset.sum_range (fun s => if s ≤ (t : ℕ) then L (n / 32 % 4) (org o n + s) c else 0), ← Finset.sum_filter]
  refine Finset.sum_congr (Finset.ext fun s => ?_) fun _ _ => rfl
  simp only [Finset.mem_filter, Finset.mem_range]
  omega

/-- Half the decay of the half block. -/
abbrev mid (L : ℕ → ℕ → ℕ → ℝ) (o n c : ℕ) : ℝ := Recur.cum (L (n / 32 % 4)) (org o n) 128 c * (1 / 2)

theorem mb_real (hl : Holds la o L) (n : ℕ) (c : Fin 1024) : mb la n (ix2 0 c) = (mid L o n c : EReal) := by
  pointwise [mb]
  rw [lcb_real hl, ofBits_half, ← EReal.coe_mul]
  rfl

variable (hL0 : ∀ b t c, L b t c ≤ 0) (n : ℕ) (hb : ∀ c, -160 ≤ Recur.cum (L (n / 32 % 4)) (org o n) 128 c)
include hL0 hb

theorem rq_real (hr : Holds r o R) (hl : Holds la o L) (t : Fin 128) (c : Fin 1024) :
    rq r la n (ix2 t c) = ((R (n / 32 % 4) (org o n + t) c
      * Real.exp (Recur.cum (L (n / 32 % 4)) (org o n) (t + 1) c - mid L o n c) : ℝ) : EReal) := by
  have hm := mb_real hl n c
  pointwise [rq]
  rw [hm, lcb_real hl, rows_real hr, ofBits_80, ← EReal.coe_sub,
    min_eq_left (EReal.coe_le_coe_iff.mpr (Recur.halves_le _ (hL0 _) (org o n) c (hb c) (by have := t.isLt; omega)).1), Ideal.exp_coe, ← EReal.coe_mul]

theorem kq_real (hk : Holds k o K) (hl : Holds la o L) (t : Fin 128) (c : Fin 1024) :
    kq k la n (ix2 t c) = ((K (n / 32 % 4) (org o n + t) c
      * Real.exp (mid L o n c - Recur.cum (L (n / 32 % 4)) (org o n) (t + 1) c) : ℝ) : EReal) := by
  have hm := mb_real hl n c
  pointwise [kq]
  rw [hm, lcb_real hl, rows_real hk, ofBits_80, ← EReal.coe_sub,
    min_eq_left (EReal.coe_le_coe_iff.mpr (Recur.halves_le _ (hL0 _) (org o n) c (hb c) (by have := t.isLt; omega)).2), Ideal.exp_coe, ← EReal.coe_mul]

theorem kd_real (hk : Holds k o K) (hl : Holds la o L) (t : Fin 128) (c : Fin 1024) :
    kd k la n (ix2 t c) = ((K (n / 32 % 4) (org o n + t) c
      * Real.exp (mid L o n c - Recur.cum (L (n / 32 % 4)) (org o n) (t + 1) c) * Real.exp (mid L o n c) : ℝ) : EReal) := by
  have hm := mb_real hl n c
  pointwise [kd, emb]
  rw [hm, kq_real hL0 n hb hk hl, Ideal.exp_coe, ← EReal.coe_mul]

omit hL0 hb in
theorem ri_real (hr : Holds r o R) (hl : Holds la o L) (t : Fin 128) (c : Fin 1024) :
    ri r la n (ix2 t c) = ((R (n / 32 % 4) (org o n + t) c
      * Real.exp (Recur.cum (L (n / 32 % 4)) (org o n) (t + 1) c) : ℝ) : EReal) := by
  pointwise [ri]
  rw [lcb_real hl, rows_real hr, Ideal.exp_coe, ← EReal.coe_mul]

/-- A step takes its block of the state 128 steps on. -/
theorem stPay_real (hk : Holds k o K) (hv : Holds v o V) (hl : Holds la o L) (s0 : FVec Ideal S1x1x64x64 .f32)
    (hs : ∀ d e : Fin 64, s0 (ix4 0 0 d e) = (Recur.st (hd L n) (hd K n) (hd V n) (org o n) d e : EReal)) (d e : Fin 64) :
    stPay k v la n s0 (ix4 0 0 d e) = (Recur.st (hd L n) (hd K n) (hd V n) (org o n + 128) d e : EReal) := by
  rw [← Recur.st_block (hd L n) (hd K n) (hd V n) (org o n) d e (mid L o n (n % 16 * 64 + d)) rfl]
  have hm := mb_real hl n
  pointwise [stPay, dl, head, emb]
  simp only [kd_real hL0 n hb hk hl, rows_real hv, hm, hs, Ideal.exp_coe, ← EReal.coe_mul, ← Recur.coe_sum, ← EReal.coe_add]
  rfl

/-- The outputs a step makes. -/
theorem oHead_real (hk : Holds k o K) (hv : Holds v o V) (hr : Holds r o R) (hl : Holds la o L) (s0 : FVec Ideal S1x1x64x64 .f32)
    (hs : ∀ d e : Fin 64, s0 (ix4 0 0 d e) = (Recur.st (hd L n) (hd K n) (hd V n) (org o n) d e : EReal)) (t : Fin 128) (e : Fin 64) :
    oHead k v r la n s0 (ix2 t e) = (Recur.out (hd L n) (hd K n) (hd V n) (hd R n) (org o n + t) e : EReal) := by
  rw [← Recur.out_block (hd L n) (hd K n) (hd V n) (hd R n) (org o n) e (fun d => mid L o n (n % 16 * 64 + d)) t]
  pointwise [oHead, head, k0_pay12]
  have ht := t.isLt
  have hsel : ∀ (x : Fin 128) (a : ℝ), Scalar.select (IntOp.cmpi CmpIPredicate.sge (BitVec.ofNat 32 ↑t) (BitVec.ofNat 32 ↑x)) (a : EReal) 0
      = ((if (x : ℕ) ≤ t then a else 0 : ℝ) : EReal) := by
    intro x a
    have hx := x.isLt
    rw [WordCmp.cmpi_sge_ofNat (by norm_num; omega) (by norm_num; omega)]
    by_cases h : (x : ℕ) ≤ t <;> simp [h, Scalar.select]
  simp only [kq_real hL0 n hb hk hl, rq_real hL0 n hb hr hl, ri_real n hr hl, rows_real hv, hs, ← EReal.coe_mul, ← Recur.coe_sum,
    hsel, ← EReal.coe_add]
  rfl

end

end Cert.KernelIdeal.Body

end
-- ==== Proof.BodyRun.lean ====
/-
  The stores the generated runs of the body find are the stores of `Body`, and what the loads of whole arguments read.
-/
module

public import proofs.«01_k».proof.Proof.Body
public import proofs.«01_k».proof.Proof.Gen.KernelIdeal.Frame.RunA
public import proofs.«01_k».proof.Proof.Gen.KernelIdeal.Frame.RunB

@[expose] public section

set_option maxRecDepth 16384

noncomputable section

namespace Cert.KernelIdeal.Body

open Idealize.ShloMosaic Idealize.ShloMosaic.Tactic Idealize.ShloMosaic.TcCoe Cert.KernelIdeal Cert.KernelIdeal.Gen

variable {F : FTy → Type} [FloatOps F]
variable (c : Dev nD) (i : grid0.Coords)
    (arg2 : Memref sig .tc .vmem S4x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S4x256x1024 .f32) (harg9 : arg9.IsWhole)
    (arg10 : Memref sig .tc .vmem S4x16x64x64 .f32) (harg10 : arg10.IsWhole)
    (x0 : Vec F S4x256x1024 .f32) (x1 x2 : Vec F S1024x1024 .f32) (x3 x4 x5 x6 : Vec F S1024x1024 .bf16) (xo8 : Vec F S4x16x64x64 .f32)

/-- What step `n` reads of the state in the first block: what the stores before it left. -/
def rdA (n : ℕ) (L : List (View.Piece (Elt F) S4x16x64x64 .f32)) : FVec F S1x1x64x64 .f32 := arg10.view.readCov L (slot n).toLoadRect

/-- What step `n` reads of the state in a later block: the first half reads what the block began with. -/
def rdB (n : ℕ) (L : List (View.Piece (Elt F) S4x16x64x64 .f32)) : FVec F S1x1x64x64 .f32 :=
  cond (n / 16 % 2 == 0) (View.readAt (Elt F) arg10.view (slot n).toLoadRect (harg10.unread xo8)) (arg10.view.readCov L (slot n).toLoadRect)

/-- The store that clears the state in the first block. -/
def base0 : List (View.Piece (Elt F) S4x16x64x64 .f32) :=
  [⟨Rect.unit ![0, 0, 0, 0] S4x16x64x64.size inb_S4x16x64x64_S4x16x64x64_0_0_0_0, k0_pay3⟩]

theorem storesA (hc0 : cond0_0 i) : (kernelRun0_A c i arg2 harg2 arg3 harg3 arg4 harg4 arg5 harg5 arg6 harg6 arg7 harg7 arg8 harg8 arg9 harg9 arg10 harg10 hc0 x0 x1 x2 x3 x4 x5 x6).2.1
    = stores
        (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
        (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
        (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
        base0 (rdA arg10) 128 := by
  sl_kernel_rfl

theorem storesB (hc0 : ¬cond0_0 i) : (kernelRun0_B c i arg2 harg2 arg3 harg3 arg4 harg4 arg5 harg5 arg6 harg6 arg7 harg7 arg8 harg8 arg9 harg9 arg10 harg10 hc0 x0 x1 x2 x3 x4 x5 x6 xo8).2.1
    = stores
        (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
        (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
        (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
        [] (rdB arg10 harg10 xo8) 128 := by
  sl_kernel_rfl

theorem bandsA (hc0 : cond0_0 i) : (kernelRun0_A c i arg2 harg2 arg3 harg3 arg4 harg4 arg5 harg5 arg6 harg6 arg7 harg7 arg8 harg8 arg9 harg9 arg10 harg10 hc0 x0 x1 x2 x3 x4 x5 x6).1
    = bands
        (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
        (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
        (k0_pay10 (k0_pay5 (View.readAt (Elt F) arg2.view (Rect.unit ![0, 0, 0] S4x256x1024.size inb_S4x256x1024_S4x256x1024_0_0_0).toLoadRect (harg2.unread x0))) (View.readAt (Elt F) arg7.view (Rect.unit ![0, 0] S1024x1024.size inb_S1024x1024_S1024x1024_0_0).toLoadRect (harg7.unread x5)))
        (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
        (View.readAt (Elt F) arg8.view (Rect.unit ![0, 0] S1024x1024.size inb_S1024x1024_S1024x1024_0_0).toLoadRect (harg8.unread x6))
        (fun n => rdA arg10 n (stores
          (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
          (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
          (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
          base0 (rdA arg10) n)) 8 := by
  sl_kernel_rfl

theorem bandsB (hc0 : ¬cond0_0 i) : (kernelRun0_B c i arg2 harg2 arg3 harg3 arg4 harg4 arg5 harg5 arg6 harg6 arg7 harg7 arg8 harg8 arg9 harg9 arg10 harg10 hc0 x0 x1 x2 x3 x4 x5 x6 xo8).1
    = bands
        (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
        (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
        (k0_pay10 (k0_pay5 (View.readAt (Elt F) arg2.view (Rect.unit ![0, 0, 0] S4x256x1024.size inb_S4x256x1024_S4x256x1024_0_0_0).toLoadRect (harg2.unread x0))) (View.readAt (Elt F) arg7.view (Rect.unit ![0, 0] S1024x1024.size inb_S1024x1024_S1024x1024_0_0).toLoadRect (harg7.unread x5)))
        (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
        (View.readAt (Elt F) arg8.view (Rect.unit ![0, 0] S1024x1024.size inb_S1024x1024_S1024x1024_0_0).toLoadRect (harg8.unread x6))
        (fun n => rdB arg10 harg10 xo8 n (stores
          (k0_pay8 (k0_pay5 (View.readAt (Elt F) arg2.view (Rect.unit ![0, 0, 0] S4x256x1024.size inb_S4x256x1024_S4x256x1024_0_0_0).toLoadRect (harg2.unread x0))) (View.readAt (Elt F) arg5.view (Rect.unit ![0, 0] S1024x1024.size inb_S1024x1024_S1024x1024_0_0).toLoadRect (harg5.unread x3)))
          (k0_pay9 (k0_pay5 (View.readAt (Elt F) arg2.view (Rect.unit ![0, 0, 0] S4x256x1024.size inb_S4x256x1024_S4x256x1024_0_0_0).toLoadRect (harg2.unread x0))) (View.readAt (Elt F) arg6.view (Rect.unit ![0, 0] S1024x1024.size inb_S1024x1024_S1024x1024_0_0).toLoadRect (harg6.unread x4)))
          (k0_pay7 (k0_pay6 (View.readAt (Elt F) arg2.view (Rect.unit ![0, 0, 0] S4x256x1024.size inb_S4x256x1024_S4x256x1024_0_0_0).toLoadRect (harg2.unread x0)) (View.readAt (Elt F) arg3.view (Rect.unit ![0, 0] S1024x1024.size inb_S1024x1024_S1024x1024_0_0).toLoadRect (harg3.unread x1)) (View.readAt (Elt F) arg4.view (Rect.unit ![0, 0] S1024x1024.size inb_S1024x1024_S1024x1024_0_0).toLoadRect (harg4.unread x2))))
          [] (rdB arg10 harg10 xo8) n)) 8 := by
  sl_kernel_rfl

end Cert.KernelIdeal.Body

end
-- ==== Proof.BodyState.lean ====
/-
  What the stores of `Body` leave in the state: at every batch and head the second of the two steps over that block, of
  what the first made of the block the run began with.
-/
module

public import proofs.«01_k».proof.Proof.BodyRun
public import Idealize.ShloMosaic.Lib.WritesUnit

@[expose] public section

set_option maxRecDepth 16384

noncomputable section

namespace Cert.KernelIdeal.Body

open Idealize.ShloMosaic Idealize.ShloMosaic.Tactic Idealize.ShloMosaic.TcCoe Cert.KernelIdeal Cert.KernelIdeal.Gen

variable {F : FTy → Type} [FloatOps F]

/-- The block of a state that step `n` treats. -/
def blk (X : FVec F S4x16x64x64 .f32) (n : ℕ) : FVec F S1x1x64x64 .f32 := fun j => X ((slot n).emb j)

/-- Two steps treat the same block. -/
def same (n n' : ℕ) : Prop := n / 32 % 4 = n' / 32 % 4 ∧ n % 16 = n' % 16

theorem slot_val (n : ℕ) (j : S1x1x64x64.Idx) (a : Fin 4) :
    (((slot n).emb j) a).val = (![n / 32 % 4, n % 16, 0, 0] : Fin 4 → ℕ) a + (j a).val := by
  show (![n / 32 % 4, n % 16, 0, 0] : Fin 4 → ℕ) a + 1 * (j a).val = _
  rw [Nat.one_mul]

theorem blk_congr (X : FVec F S4x16x64x64 .f32) {n n' : ℕ} (h : same n n') : blk X n = blk X n' := by
  funext j
  refine congrArg X (funext fun a => Fin.ext ?_)
  rw [slot_val, slot_val, h.1, h.2]

section
variable {κ : Kind} {sp : Space} (vw : View sig κ sp S4x16x64x64 .f32) (f : vw.ty.Contents (Elt F))
variable (k v la : FVec F S4x256x1024 .f32) (base : List (View.Piece (Elt F) S4x16x64x64 .f32))
  (rd : ℕ → List (View.Piece (Elt F) S4x16x64x64 .f32) → FVec F S1x1x64x64 .f32)

/-- The state after the stores before step `n`. -/
def after (n : ℕ) : FVec F S4x16x64x64 .f32 := vw.read (Elt F) (vw.writes (Elt F) f (stores k v la base rd n))

theorem blk_after_hit {n m : ℕ} (h : same m n) : blk (after vw f k v la base rd (n + 1)) m = stPay k v la n (rd n (stores k v la base rd n)) := by
  funext j
  unfold blk after
  refine View.read_writes_cons_unit_of_mem vw f _ _ _ _ j rfl fun a => ?_
  rw [slot_val, h.1, h.2]

theorem blk_after_miss {n m : ℕ} (h : ¬ same m n) : blk (after vw f k v la base rd (n + 1)) m = blk (after vw f k v la base rd n) m := by
  funext j
  unfold blk after
  have h0 := slot_val m j 0
  have h1 := slot_val m j 1
  have j0 : (j 0).val < 1 := (j 0).isLt
  have j1 : (j 1).val < 1 := (j 1).isLt
  simp only [Matrix.cons_val_zero, Matrix.cons_val_one] at h0 h1
  by_cases hb : m / 32 % 4 = n / 32 % 4
  · have hh : m % 16 ≠ n % 16 := fun e => h ⟨hb, e⟩
    refine View.read_writes_cons_unit_of_not_mem vw f _ _ _ _ rfl 1 ?_
    simp only [Matrix.cons_val_one, Matrix.cons_val_zero]
    rw [h1]
    show _ < _ ∨ _ + 1 ≤ _
    omega
  · refine View.read_writes_cons_unit_of_not_mem vw f _ _ _ _ rfl 0 ?_
    simp only [Matrix.cons_val_zero]
    rw [h0]
    show _ < _ ∨ _ + 1 ≤ _
    omega

/-- Steps that treat other blocks leave a block as it was. -/
theorem blk_after_skip {m : ℕ} (a d : ℕ) (h : ∀ n, a ≤ n → n < a + d → ¬ same m n) :
    blk (after vw f k v la base rd (a + d)) m = blk (after vw f k v la base rd a) m := by
  induction d with
  | zero => rfl
  | succ d ih =>
    rw [show a + (d + 1) = (a + d) + 1 from rfl, blk_after_miss vw f k v la base rd (h (a + d) (by omega) (by omega))]
    exact ih fun n h1 h2 => h n h1 (by omega)

/-- What step `n` finds in its block, of the state the run began with. -/
def found (X0 : FVec F S4x16x64x64 .f32) (n : ℕ) : FVec F S1x1x64x64 .f32 :=
  if n / 16 % 2 = 0 then blk X0 n else stPay k v la (n - 16) (blk X0 (n - 16))

/-- Where a first half reads what the run began with and a second half what the stores left, step `n` reads `found`. -/
theorem rd_eq_found (X0 : FVec F S4x16x64x64 .f32)
    (h0 : ∀ n < 128, n / 16 % 2 = 0 → rd n (stores k v la base rd n) = blk X0 n)
    (h1 : ∀ n < 128, n / 16 % 2 = 1 → rd n (stores k v la base rd n) = blk (after vw f k v la base rd n) n)
    {n : ℕ} (hn : n < 128) : rd n (stores k v la base rd n) = found k v la X0 n := by
  unfold found
  by_cases hz : n / 16 % 2 = 0
  · rw [if_pos hz, h0 n hn hz]
  · rw [if_neg hz, h1 n hn (by omega)]
    have e : n = (n - 16 + 1) + 15 := by omega
    have hskip := blk_after_skip vw f k v la base rd (m := n) (n - 16 + 1) 15 (fun n' h1 h2 hs => by
      obtain ⟨a1, a2⟩ := hs
      omega)
    rw [← e] at hskip
    rw [hskip, blk_after_hit vw f k v la base rd (n := n - 16) (m := n) ⟨by omega, by omega⟩]
    rw [h0 (n - 16) (by omega) (by omega)]

theorem blk_final (X0 : FVec F S4x16x64x64 .f32) (hrd : ∀ n < 128, rd n (stores k v la base rd n) = found k v la X0 n)
    {n : ℕ} (hn : n < 128) (hz : n / 16 % 2 = 1) :
    blk (after vw f k v la base rd 128) n = stPay k v la n (found k v la X0 n) := by
  have hskip := blk_after_skip vw f k v la base rd (m := n) (n + 1) (128 - (n + 1)) (fun n' h1 h2 hs => by
    obtain ⟨a1, a2⟩ := hs
    omega)
  rw [show n + 1 + (128 - (n + 1)) = 128 by omega] at hskip
  rw [hskip, blk_after_hit vw f k v la base rd (n := n) (m := n) ⟨rfl, rfl⟩, hrd n hn]

end

section
variable (k v la : FVec F S4x256x1024 .f32) (arg10 : Memref sig .tc .vmem S4x16x64x64 .f32) (harg10 : arg10.IsWhole) (X0 : FVec F S4x16x64x64 .f32)

theorem rdA_found {n : ℕ} (hn : n < 128) :
    rdA arg10 n (stores k v la base0 (rdA arg10) n) = found k v la (k0_pay3 (F := F)) n := by
  refine rd_eq_found arg10.view arg10.view.junk k v la base0 (rdA arg10) k0_pay3 ?_ ?_ hn
  · intro n hn hz
    have hskip := blk_after_skip arg10.view arg10.view.junk k v la base0 (rdA (F := F) arg10) (m := n) 0 n (fun n' h1 h2 hs => by
      obtain ⟨a1, a2⟩ := hs
      omega)
    rw [Nat.zero_add] at hskip
    refine Eq.trans (show _ = blk (after arg10.view arg10.view.junk k v la base0 (rdA arg10) n) n from rfl) (hskip.trans ?_)
    funext j
    unfold blk after
    exact View.read_writes_cons_unit_of_mem arg10.view arg10.view.junk _ _ _ _ ((slot n).emb j) (off' := ![0, 0, 0, 0]) rfl fun a => by
      fin_cases a <;> simp
  · intro n hn hz
    rfl

theorem rdB_found {n : ℕ} (hn : n < 128) :
    rdB arg10 harg10 X0 n (stores k v la [] (rdB arg10 harg10 X0) n) = found k v la X0 n := by
  refine rd_eq_found arg10.view arg10.view.junk k v la [] (rdB arg10 harg10 X0) X0 ?_ ?_ hn
  · intro n hn hz
    unfold rdB
    rw [hz]
    funext j
    show arg10.view.read (Elt F) (harg10.unread X0) ((slot n).emb j) = _
    rw [harg10.read_unread]
    rfl
  · intro n hn hz
    unfold rdB
    rw [hz]
    rfl

end

end Cert.KernelIdeal.Body

end
-- ==== Proof.Rows.lean ====
/-
  What one row of the input makes: the normalised row, the keys, values and gates, and the decay. Both programs compute
  these; here are the forms both are brought to, and when they are reals.
-/
module

public import proofs.«01_k».proof.Proof.Recur
public import Idealize.ShloMosaic.Lib.Pointwise

@[expose] public section

noncomputable section

namespace Cert.Proof.Rows

open Idealize.ShloMosaic

/-- An extended real that is a real. -/
def IsReal (a : EReal) : Prop := ∃ r : ℝ, a = (r : EReal)

theorem IsReal.coe {a : EReal} (h : IsReal a) : ((a.toReal : ℝ) : EReal) = a := by
  obtain ⟨r, rfl⟩ := h
  rfl

theorem isReal_of_ne {a : EReal} (hb : a ≠ ⊥) (ht : a ≠ ⊤) : IsReal a := ⟨a.toReal, (EReal.coe_toReal ht hb).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type*} {s : Finset ι} {f : ι → EReal} (h : ∀ i, IsReal (f i)) : IsReal (∑ i ∈ s, f i) := by
  choose g hg using h
  exact ⟨∑ i ∈ s, g i, by rw [Recur.coe_sum]; exact Finset.sum_congr rfl fun i _ => hg i⟩

theorem ofBits_1024 : Ideal.ofBits .f32 1149239296#32 = ((1024 : ℝ) : EReal) := by
  simp [Ideal.ofBits, Ideal.ieee, -EReal.coe_mul]; norm_num

/-- The small constant under the root is a positive real. -/
theorem ofBits_eps : ∃ r : ℝ, 0 < r ∧ Ideal.ofBits .f32 925353388#32 = (r : EReal) := by
  refine ⟨10995116 / 1099511627776, by norm_num, ?_⟩
  simp [Ideal.ofBits, Ideal.ieee, -EReal.coe_mul]; norm_num

/-! ## The normalised row -/

variable (ρ : Fin 1024 → EReal)

def mean : EReal := Ideal.div (∑ c, ρ c) (Ideal.ofBits .f32 1149239296#32)

def spread : EReal :=
  Ideal.div (∑ c, (ρ c - mean ρ) * (ρ c - mean ρ)) (Ideal.ofBits .f32 1149239296#32) + Ideal.ofBits .f32 925353388#32

def xn (c : Fin 1024) : EReal := (ρ c - mean ρ) * Ideal.rsqrt (spread ρ)

theorem sq_nonneg' (a : EReal) : 0 ≤ a * a := by
  induction a using EReal.rec with
  | bot => simp
  | top => simp
  | coe r => rw [← EReal.coe_mul]; exact EReal.coe_nonneg.mpr (mul_self_nonneg r)

theorem div_1024 (a : EReal) : Ideal.div a (Ideal.ofBits .f32 1149239296#32) = a * ((1 / 1024 : ℝ) : EReal) := by
  rw [ofBits_1024, Ideal.div_coe (by norm_num)]

/-- The spread is either infinite or a positive real, and then every deviation is a real. -/
theorem spread_cases : spread ρ = ⊤ ∨ ((∃ v : ℝ, 0 < v ∧ spread ρ = (v : EReal)) ∧ ∀ c, IsReal (ρ c - mean ρ)) := by
  obtain ⟨e, he, hE⟩ := ofBits_eps
  set q := ∑ c, (ρ c - mean ρ) * (ρ c - mean ρ) with hq
  have hs : spread ρ = q * ((1 / 1024 : ℝ) : EReal) + (e : EReal) := by rw [← hE, ← div_1024]; rfl
  have hq0 : 0 ≤ q := Finset.sum_nonneg fun c _ => sq_nonneg' _
  by_cases ht : q = ⊤
  · left
    rw [hs, ht, EReal.top_mul_coe_of_pos (by norm_num)]
    exact EReal.top_add_coe e
  · right
    obtain ⟨y, hy⟩ := isReal_of_ne (fun h => by rw [h] at hq0; exact absurd hq0 (by simp)) ht
    have hy0 : 0 ≤ y := by rw [hy] at hq0; exact EReal.coe_nonneg.mp hq0
    refine ⟨⟨y * (1 / 1024) + e, by positivity, by rw [hs, hy, ← EReal.coe_mul, ← EReal.coe_add]⟩, fun c => ?_⟩
    have hle : (ρ c - mean ρ) * (ρ c - mean ρ) ≤ q :=
      Finset.single_le_sum (f := fun c => (ρ c - mean ρ) * (ρ c - mean ρ)) (fun c _ => sq_nonneg' _) (Finset.mem_univ c)
    refine isReal_of_ne (fun h => ?_) (fun h => ?_)
    · rw [h] at hle
      exact ht (top_le_iff.mp (by simpa using hle))
    · rw [h] at hle
      exact ht (top_le_iff.mp (by simpa using hle))

/-- Whatever the row, its normalised form is real. -/
theorem xn_real (c : Fin 1024) : IsReal (xn ρ c) := by
  unfold xn
  rcases spread_cases ρ with h | ⟨⟨v, hv, h⟩, hd⟩
  · rw [h]
    exact ⟨0, by simp⟩
  · rw [h, Ideal.rsqrt_coe, if_neg (by linarith), if_neg hv.ne']
    exact (hd c).mul ⟨_, rfl⟩

/-- Dividing by the root is multiplying by its reciprocal. -/
theorem div_sqrt (a : EReal) : Ideal.div a (Ideal.sqrt (spread ρ)) = a * Ideal.rsqrt (spread ρ) := by
  rcases spread_cases ρ with h | ⟨⟨v, hv, h⟩, hd⟩
  · rw [h]
    simp [Ideal.div]
  · have hne : Real.sqrt v ≠ 0 := (Real.sqrt_pos.mpr hv).ne'
    rw [h, Ideal.rsqrt_coe, if_neg (by linarith), if_neg hv.ne', Ideal.sqrt_coe, if_neg (by linarith), Ideal.div_coe hne, one_div]

/-! ## The projections -/

def proj (W : Fin 1024 → Fin 1024 → EReal) (c : Fin 1024) : EReal := ∑ i, xn ρ i * W i c

theorem proj_real {W : Fin 1024 → Fin 1024 → EReal} (h : ∀ i j, IsReal (W i j)) (c : Fin 1024) : IsReal (proj ρ W c) :=
  IsReal.sum fun i => (xn_real ρ i).mul (h i c)

def twice (Wx Ww : Fin 1024 → Fin 1024 → EReal) (c : Fin 1024) : EReal := ∑ j, proj ρ Wx j * Ww j c

/-! ## The gate and the decay -/

/-- The kernel's form of `log (1 + exp z)`. -/
def soft (z : EReal) : EReal := max z 0 + Ideal.log1p (Ideal.exp (0 - FloatOps.absf (F := Ideal) (φ := .f32) z))

theorem log1p_exp_coe (a : ℝ) : Ideal.log1p (Ideal.exp (a : EReal)) = ((Real.log (1 + Real.exp a) : ℝ) : EReal) := by
  have h : 0 < 1 + Real.exp a := by positivity
  unfold Ideal.log1p
  rw [Ideal.exp_coe, show (1 : EReal) + ((Real.exp a : ℝ) : EReal) = ((1 + Real.exp a : ℝ) : EReal) by rw [EReal.coe_add]; rfl]
  show (if _ then _ else _) = _
  rw [if_neg (by linarith)]

theorem log1p_exp_bot : Ideal.log1p (Ideal.exp ⊥) = 0 := by
  have h := log1p_exp_coe 0
  unfold Ideal.log1p
  rw [show Ideal.exp ⊥ = 0 from rfl, add_zero]
  show (if (1 : ℝ) ≤ 0 then ⊥ else ((Real.log 1 : ℝ) : EReal)) = 0
  rw [if_neg (by norm_num), Real.log_one]
  rfl

theorem log1p_exp_top : Ideal.log1p (Ideal.exp ⊤) = ⊤ := by
  unfold Ideal.log1p
  rw [show Ideal.exp ⊤ = ⊤ from rfl]
  rfl

theorem soft_coe (a : ℝ) : soft (a : EReal) = ((Real.log (1 + Real.exp a) : ℝ) : EReal) := by
  unfold soft
  have habs : FloatOps.absf (F := Ideal) (φ := .f32) (a : EReal) = ((|a| : ℝ) : EReal) := by
    show max (a : EReal) (-(a : EReal)) = _
    rw [← EReal.coe_neg]
    rcases le_total 0 a with h | h
    · rw [abs_of_nonneg h, max_eq_left (EReal.coe_le_coe_iff.mpr (by linarith))]
    · rw [abs_of_nonpos h, max_eq_right (EReal.coe_le_coe_iff.mpr (by linarith))]
  rw [habs, show (0 : EReal) = ((0 : ℝ) : EReal) from rfl, ← EReal.coe_sub, log1p_exp_coe, zero_sub]
  rcases le_total 0 a with h | h
  · rw [max_eq_left (EReal.coe_le_coe_iff.mpr h), abs_of_nonneg h, ← EReal.coe_add]
    congr 1
    have h1 : 1 + Real.exp a = Real.exp a * (1 + Real.exp (-a)) := by
      rw [mul_add, mul_one, ← Real.exp_add, add_neg_cancel, Real.exp_zero, add_comm]
    rw [h1, Real.log_mul (Real.exp_pos a).ne' (by positivity), Real.log_exp]
  · rw [max_eq_right (EReal.coe_le_coe_iff.mpr h), abs_of_nonpos h, ← EReal.coe_add, zero_add, neg_neg]

theorem soft_bot : soft ⊥ = 0 := by
  unfold soft
  rw [show FloatOps.absf (F := Ideal) (φ := .f32) (⊥ : EReal) = ⊤ from by show max (⊥ : EReal) (-⊥) = ⊤; simp]
  rw [show (0 : EReal) - ⊤ = ⊥ from rfl, log1p_exp_bot]
  simp

/-- The kernel's form is the plain one. -/
theorem soft_eq {z : EReal} (h : z ≠ ⊤) : soft z = Ideal.log1p (Ideal.exp z) := by
  induction z using EReal.rec with
  | bot => rw [soft_bot, log1p_exp_bot]
  | top => exact absurd rfl h
  | coe a => rw [soft_coe, log1p_exp_coe]

theorem log1p_exp_nonneg (z : EReal) : 0 ≤ Ideal.log1p (Ideal.exp z) := by
  induction z using EReal.rec with
  | bot => rw [log1p_exp_bot]
  | top => rw [log1p_exp_top]; exact le_top
  | coe a => rw [log1p_exp_coe]; exact EReal.coe_nonneg.mpr (Real.log_nonneg (by linarith [Real.exp_pos a]))

theorem logistic_bot : Ideal.logistic ⊥ = 0 := by
  unfold Ideal.logistic
  rw [EReal.neg_bot, show Ideal.exp ⊤ = ⊤ from rfl, show (1 : EReal) + ⊤ = ⊤ from rfl]
  simp [Ideal.div]

theorem logistic_top : Ideal.logistic ⊤ = 1 := by
  unfold Ideal.logistic
  rw [EReal.neg_top, show Ideal.exp ⊥ = 0 from rfl, add_zero]
  simp [Ideal.div]

/-- The decay of a step, as the kernel and the reference form it: the exponential of minus the one is one minus the gate
    of the other. -/
theorem decay {z : EReal} (h : z ≠ ⊤) : ∃ s : ℝ, 0 ≤ s ∧ soft z = (s : EReal) ∧ 1 - Ideal.logistic z = ((Real.exp (-s) : ℝ) : EReal) := by
  induction z using EReal.rec with
  | bot =>
    refine ⟨0, le_rfl, soft_bot, ?_⟩
    rw [logistic_bot]
    simp
  | top => exact absurd rfl h
  | coe a =>
    refine ⟨Real.log (1 + Real.exp a), Real.log_nonneg (by linarith [Real.exp_pos a]), soft_coe a, ?_⟩
    have h1 : 0 < 1 + Real.exp a := by positivity
    have h2 : 0 < 1 + Real.exp (-a) := by positivity
    rw [Ideal.logistic_coe, show (1 : EReal) = ((1 : ℝ) : EReal) from rfl, ← EReal.coe_sub]
    congr 1
    rw [Real.exp_neg (Real.log _), Real.exp_log h1]
    have h3 : Real.exp a * Real.exp (-a) = 1 := by rw [← Real.exp_add, add_neg_cancel, Real.exp_zero]
    field_simp
    nlinarith [h3]

theorem logistic_real (z : EReal) : IsReal (Ideal.logistic z) := by
  induction z using EReal.rec with
  | bot => exact ⟨0, logistic_bot⟩
  | top => exact ⟨1, logistic_top⟩
  | coe a => exact ⟨_, Ideal.logistic_coe a⟩

end Cert.Proof.Rows

end
-- ==== Proof.Data.lean ====
/-
  The reals the recurrence runs on, read off the arguments: log decays, keys, values and gates of every batch, step and
  channel; and what the precondition says of them.
-/
module

public import proofs.«01_k».proof.Proof.Rows

@[expose] public section

noncomputable section

namespace Cert.Proof.Data

open Idealize.ShloMosaic Cert.Proof.Rows

/-- A sequence of rows for every batch. -/
abbrev Arr : Type := (⟨3, ![4, 2048, 1024]⟩ : Shape).Idx → EReal
/-- A square matrix of weights. -/
abbrev Mat : Type := (⟨2, ![1024, 1024]⟩ : Shape).Idx → EReal

def mat (W : Mat) : Fin 1024 → Fin 1024 → EReal := fun i j => W (ix2 i j)

def rowAt (x : Arr) (b t : ℕ) : Fin 1024 → EReal :=
  fun c => x (ix3 ⟨b % 4, Nat.mod_lt _ (by decide)⟩ ⟨t % 2048, Nat.mod_lt _ (by decide)⟩ c)

def ch (c : ℕ) : Fin 1024 := ⟨c % 1024, Nat.mod_lt _ (by decide)⟩

theorem ch_val (c : Fin 1024) : ch c = c := Fin.ext (Nat.mod_eq_of_lt c.isLt)

theorem rowAt_fin (x : Arr) (b : Fin 4) (t : Fin 2048) (c : Fin 1024) : rowAt x b t c = x (ix3 b t c) := by
  unfold rowAt
  congr 1
  congr 1
  · exact Fin.ext (Nat.mod_eq_of_lt b.isLt)
  · exact Fin.ext (Nat.mod_eq_of_lt t.isLt)

variable (x : Arr) (Wx Ww Wk Wv Wr : Mat)

/-- The argument of the decay. -/
def zz (b t c : ℕ) : EReal := twice (rowAt x b t) (mat Wx) (mat Ww) (ch c)

def Lr (b t c : ℕ) : ℝ := -(soft (zz x Wx Ww b t c)).toReal
def Pr (W : Mat) (b t c : ℕ) : ℝ := (proj (rowAt x b t) (mat W) (ch c)).toReal
def Rr (b t c : ℕ) : ℝ := (Ideal.logistic (proj (rowAt x b t) (mat Wr) (ch c))).toReal

/-- What the precondition gives. -/
structure Mild : Prop where
  wk : ∀ i j, IsReal (mat Wk i j)
  wv : ∀ i j, IsReal (mat Wv i j)
  dec : ∀ (b : Fin 4) (j : Fin 16) (c : Fin 1024),
    ∑ s : Fin 128, Ideal.log1p (Ideal.exp (zz x Wx Ww b (128 * j + s) c)) ≤ ((160 : ℝ) : EReal)

variable {x Wx Ww Wk Wv}

theorem zz_mod (b t c : ℕ) : zz x Wx Ww (b % 4) (t % 2048) (c % 1024) = zz x Wx Ww b t c := by
  unfold zz rowAt ch
  simp only [Nat.mod_mod]

theorem zz_ne_top (h : Mild x Wx Ww Wk Wv) (b t c : ℕ) : zz x Wx Ww b t c ≠ ⊤ := by
  intro ht
  have hb : b % 4 < 4 := Nat.mod_lt _ (by decide)
  have hc : c % 1024 < 1024 := Nat.mod_lt _ (by decide)
  have hj : t % 2048 / 128 < 16 := by omega
  have hs : t % 2048 % 128 < 128 := by omega
  have h1 := h.dec ⟨b % 4, hb⟩ ⟨t % 2048 / 128, hj⟩ ⟨c % 1024, hc⟩
  have h2 := Finset.single_le_sum (f := fun s : Fin 128 => Ideal.log1p (Ideal.exp (zz x Wx Ww (b % 4) (128 * (t % 2048 / 128) + s) (c % 1024))))
    (fun s _ => log1p_exp_nonneg _) (Finset.mem_univ ⟨t % 2048 % 128, hs⟩)
  have e : 128 * (t % 2048 / 128) + t % 2048 % 128 = t % 2048 := Nat.div_add_mod _ _
  have h3 := le_trans h2 h1
  simp only [e, zz_mod, ht, log1p_exp_top] at h3
  exact absurd (top_le_iff.mp h3) (EReal.coe_ne_top _)

theorem Lr_coe (h : Mild x Wx Ww Wk Wv) (b t c : ℕ) : 0 - soft (zz x Wx Ww b t c) = (Lr x Wx Ww b t c : EReal) := by
  obtain ⟨s, _, hs, _⟩ := decay (zz_ne_top h b t c)
  unfold Lr
  rw [hs, EReal.toReal_coe, zero_sub, EReal.coe_neg]

theorem Lr_nonpos (h : Mild x Wx Ww Wk Wv) (b t c : ℕ) : Lr x Wx Ww b t c ≤ 0 := by
  obtain ⟨s, h0, hs, _⟩ := decay (zz_ne_top h b t c)
  unfold Lr
  rw [hs, EReal.toReal_coe]
  linarith

theorem decay_coe (h : Mild x Wx Ww Wk Wv) (b t c : ℕ) :
    1 - Ideal.logistic (zz x Wx Ww b t c) = ((Real.exp (Lr x Wx Ww b t c) : ℝ) : EReal) := by
  obtain ⟨s, h0, hs, hd⟩ := decay (zz_ne_top h b t c)
  unfold Lr
  rw [hs, EReal.toReal_coe, hd]

theorem Pr_coe {W : Mat} (h : ∀ i j, IsReal (mat W i j)) (b t c : ℕ) :
    proj (rowAt x b t) (mat W) (ch c) = (Pr x W b t c : EReal) := ((proj_real _ h _).coe).symm

theorem Rr_coe (b t c : ℕ) : Ideal.logistic (proj (rowAt x b t) (mat Wr) (ch c)) = (Rr x Wr b t c : EReal) := ((logistic_real _).coe).symm

/-- Over each block of 128 steps the decay stays above `-160`. -/
theorem cum_ge (h : Mild x Wx Ww Wk Wv) (b j c : ℕ) (hb : b < 4) (hj : j < 16) : -160 ≤ Recur.cum (Lr x Wx Ww b) (128 * j) 128 c := by
  have hc : c % 1024 < 1024 := Nat.mod_lt _ (by decide)
  have h1 := h.dec ⟨b, hb⟩ ⟨j, hj⟩ ⟨c % 1024, hc⟩
  have e : ∀ s : Fin 128, Ideal.log1p (Ideal.exp (zz x Wx Ww b (128 * j + s) (c % 1024))) = ((-(Lr x Wx Ww b (128 * j + s) c) : ℝ) : EReal) := by
    intro s
    have hz : zz x Wx Ww b (128 * j + s) (c % 1024) = zz x Wx Ww b (128 * j + s) c := by
      unfold zz ch
      simp only [Nat.mod_mod]
    rw [hz, ← soft_eq (zz_ne_top h _ _ _)]
    obtain ⟨s', _, hs, _⟩ := decay (zz_ne_top h b (128 * j + s) c)
    unfold Lr
    rw [hs, EReal.toReal_coe, neg_neg]
  simp only [e, ← Recur.coe_sum] at h1
  have h2 := EReal.coe_le_coe_iff.mp h1
  unfold Recur.cum
  rw [Finset.sum_range]
  rw [Finset.sum_neg_distrib] at h2
  linarith

end Cert.Proof.Data

end
-- ==== Proof.Block.lean ====
/-
  One run of the body over a block of 256 steps: the state it leaves is the recurrence's 256 steps later, and the rows it
  writes are the outputs of those steps, projected.
-/
module

public import proofs.«01_k».proof.Proof.BodyReal
public import proofs.«01_k».proof.Proof.BodyState
public import proofs.«01_k».proof.Proof.Data

@[expose] public section

set_option maxRecDepth 16384

noncomputable section

namespace Cert.KernelIdeal.Body

open Idealize.ShloMosaic Cert.KernelIdeal Cert.KernelIdeal.Gen Cert.Proof

/-! ## The rows of the block -/

section
variable (X : Vec Ideal S4x256x1024 .f32) (x : Data.Arr) (o : ℕ)

/-- The block holds the rows of the input from step `o`. -/
def IsRows : Prop := ∀ (b : Fin 4) (t : Fin 256) (c : Fin 1024), X (ix3 b t c) = Data.rowAt x b (o + t) c

variable {X x o} (hX : IsRows X x o)
include hX

theorem pay4_eq (b : Fin 4) (t : Fin 256) (c : Fin 1024) : k0_pay4 X (ix3 b t c) = Rows.xn (Data.rowAt x b (o + t)) c := by
  pointwise [k0_pay4]
  simp only [hX b t]
  rfl

theorem k_holds {W : Data.Mat} (hW : ∀ i j, Rows.IsReal (Data.mat W i j)) : Holds (k0_pay8 (k0_pay5 X) W) o (Data.Pr x W) := by
  intro b t c
  rw [← Data.Pr_coe hW, Data.ch_val]
  pointwise [k0_pay8, k0_pay5]
  simp only [pay4_eq hX]
  rfl

theorem v_holds {W : Data.Mat} (hW : ∀ i j, Rows.IsReal (Data.mat W i j)) : Holds (k0_pay9 (k0_pay5 X) W) o (Data.Pr x W) := by
  intro b t c
  rw [← Data.Pr_coe hW, Data.ch_val]
  pointwise [k0_pay9, k0_pay5]
  simp only [pay4_eq hX]
  rfl

theorem r_holds (W : Data.Mat) : Holds (k0_pay10 (k0_pay5 X) W) o (Data.Rr x W) := by
  intro b t c
  rw [← Data.Rr_coe, Data.ch_val]
  pointwise [k0_pay10, k0_pay5]
  simp only [pay4_eq hX]
  rfl

theorem la_holds {Wx Ww Wk Wv : Data.Mat} (h : Data.Mild x Wx Ww Wk Wv) : Holds (k0_pay7 (k0_pay6 X Wx Ww)) o (Data.Lr x Wx Ww) := by
  intro b t c
  rw [← Data.Lr_coe h]
  unfold Data.zz
  rw [Data.ch_val]
  pointwise [k0_pay7, k0_pay6]
  simp only [pay4_eq hX]
  rw [if_neg (fun hne => hne rfl)]
  rfl

end

/-! ## The state -/

/-- The reals of one batch and head. -/
abbrev headOf (A : ℕ → ℕ → ℕ → ℝ) (b h : ℕ) : ℕ → ℕ → ℝ := fun t d => A b t (h * 64 + d)

theorem hd_eq (A : ℕ → ℕ → ℕ → ℝ) {n b h : ℕ} (e1 : n / 32 % 4 = b) (e2 : n % 16 = h) : hd A n = headOf A b h := by
  subst e1 e2
  rfl

section
variable {k v r la : FVec Ideal S4x256x1024 .f32} {o : ℕ} {K V R L : ℕ → ℕ → ℕ → ℝ}

/-- A state that is the recurrence's before step `o`. -/
def IsState (X0 : FVec Ideal S4x16x64x64 .f32) (L K V : ℕ → ℕ → ℕ → ℝ) (o : ℕ) : Prop :=
  ∀ (b : Fin 4) (h : Fin 16) (d e : Fin 64), X0 (ix4 b h d e) = (Recur.st (headOf L b h) (headOf K b h) (headOf V b h) o d e : EReal)

variable (hL0 : ∀ b t c, L b t c ≤ 0) (hb : ∀ n < 128, ∀ c, -160 ≤ Recur.cum (L (n / 32 % 4)) (org o n) 128 c)
  (hk : Holds k o K) (hv : Holds v o V) (hr : Holds r o R) (hl : Holds la o L) (X0 : FVec Ideal S4x16x64x64 .f32)
  (h0 : IsState X0 L K V o)

theorem blk_entry (X0 : FVec Ideal S4x16x64x64 .f32) (n : ℕ) (d e : Fin 64) : blk X0 n (ix4 0 0 d e)
    = X0 (ix4 ⟨n / 32 % 4, Nat.mod_lt _ (by decide)⟩ ⟨n % 16, Nat.mod_lt _ (by decide)⟩ d e) := by
  unfold blk
  refine congrArg X0 (funext fun a => Fin.ext ?_)
  rw [slot_val]
  fin_cases a <;> simp [ix4]

include hL0 hb hk hv hl h0

theorem found_real {n : ℕ} (hn : n < 128) (d e : Fin 64) :
    found k v la X0 n (ix4 0 0 d e) = (Recur.st (hd L n) (hd K n) (hd V n) (org o n) d e : EReal) := by
  unfold found
  by_cases hz : n / 16 % 2 = 0
  · rw [if_pos hz, blk_entry, h0]
    simp only [hd, org, hz, Nat.zero_mul, Nat.add_zero]
  · rw [if_neg hz]
    have h1 : (n - 16) / 16 % 2 = 0 := by omega
    rw [stPay_real hL0 (n - 16) (hb _ (by omega)) hk hv hl _ (fun d e => by
      rw [blk_entry, h0]
      simp only [hd, org, h1, Nat.zero_mul, Nat.add_zero])]
    have e1 : (n - 16) / 32 % 4 = n / 32 % 4 := by omega
    have e2 : (n - 16) % 16 = n % 16 := by omega
    have e3 : n / 16 % 2 = 1 := by omega
    rw [hd_eq L e1 e2, hd_eq K e1 e2, hd_eq V e1 e2]
    simp only [org, h1, e3, Nat.zero_mul, Nat.add_zero, Nat.one_mul]

/-- What the run leaves is the state 256 steps on. -/
theorem state_real (Y : FVec Ideal S4x16x64x64 .f32)
    (hY : ∀ n < 128, n / 16 % 2 = 1 → blk Y n = stPay k v la n (found k v la X0 n)) : IsState Y L K V (o + 256) := by
  intro b h d e
  have hb4 := b.isLt
  have hh := h.isLt
  set n := 32 * b.val + 16 + h.val with hn
  have hn1 : n < 128 := by omega
  have e1 : n / 32 % 4 = b := by omega
  have e2 : n % 16 = h := by omega
  have e3 : n / 16 % 2 = 1 := by omega
  have hy := congrFun (hY n hn1 e3) (ix4 0 0 d e)
  rw [blk_entry, stPay_real hL0 n (hb n hn1) hk hv hl _ (found_real hL0 hb hk hv hl X0 h0 hn1)] at hy
  rw [hd_eq L e1 e2, hd_eq K e1 e2, hd_eq V e1 e2] at hy
  simp only [org, e1, e2, e3, Nat.one_mul, Nat.add_assoc] at hy
  exact hy

include hr

/-- The outputs of one step of the run. -/
theorem found_out {n : ℕ} (hn : n < 128) (t : Fin 128) (e : Fin 64) :
    oHead k v r la n (found k v la X0 n) (ix2 t e) = (Recur.out (hd L n) (hd K n) (hd V n) (hd R n) (org o n + t) e : EReal) :=
  oHead_real hL0 n (hb n hn) hk hv hr hl _ (found_real hL0 hb hk hv hl X0 h0 hn) t e

end

/-! ## The rows of the result -/

/-- Heads side by side, read at a channel. -/
theorem cat_at (t : Fin 128) (c0 : Fin 1024) (y : FVec Ideal S128x64 .f32) : ∀ (l : List (FVec Ideal S128x64 .f32))
    (hs : ∀ s' ∈ (l.map fun x => (⟨S128x64, x⟩ : (s : Shape) × (s.Idx → Ideal .f32))).map (·.1), s'.FitsOff S128x1024 1) (c : ℕ)
    (hc : c < (axisSizes S128x1024 1 (l.map fun x => (⟨S128x64, x⟩ : (s : Shape) × (s.Idx → Ideal .f32)))).sum) (hl : l[c / 64]? = some y),
    concatenateAt S128x1024 1 (ix2 t c0) (l.map fun x => (⟨S128x64, x⟩ : (s : Shape) × (s.Idx → Ideal .f32))) hs c hc
      = y (ix2 t ⟨c % 64, Nat.mod_lt _ (by decide)⟩)
  | [], _, _, _, hl => by simp at hl
  | [x], hs, c, hc, hl => by
    have e : c / 64 = 0 := by
      by_contra h
      obtain ⟨m, hm⟩ := Nat.exists_eq_succ_of_ne_zero h
      rw [hm] at hl
      simp at hl
    rw [e, List.getElem?_cons_zero] at hl
    obtain rfl := Option.some.inj hl
    refine (concatenateAt_singleton (t := S128x1024) (s := S128x64) 1 (ix2 t c0) x hs c hc).trans (congrArg x (funext fun a => Fin.ext ?_))
    fin_cases a
    · rfl
    · show c = c % 64
      omega
  | x :: z :: l, hs, c, hc, hl => by
    refine (concatenateAt_cons (t := S128x1024) (s := S128x64) 1 (ix2 t c0) x ⟨S128x64, z⟩ (l.map fun x => ⟨S128x64, x⟩) hs c hc).trans ?_
    by_cases hlt : c < 64
    · have e : c / 64 = 0 := by omega
      rw [e, List.getElem?_cons_zero] at hl
      obtain rfl := Option.some.inj hl
      refine (dif_pos hlt).trans (congrArg x (funext fun a => Fin.ext ?_))
      fin_cases a
      · rfl
      · show c = c % 64
        omega
    · have e : c / 64 = (c - 64) / 64 + 1 := by omega
      rw [e, List.getElem?_cons_succ] at hl
      refine (dif_neg hlt).trans ((cat_at t c0 y (z :: l) _ (c - 64) _ hl).trans ?_)
      have e2 : (c - 64) % 64 = c % 64 := by omega
      simp only [e2]

theorem cat_entry (o : ℕ → FVec Ideal S128x64 .f32) (t : Fin 128) (c : Fin 1024) :
    concatenate S128x1024 1 [⟨S128x64, o 0⟩, ⟨S128x64, o 1⟩, ⟨S128x64, o 2⟩, ⟨S128x64, o 3⟩, ⟨S128x64, o 4⟩, ⟨S128x64, o 5⟩,
      ⟨S128x64, o 6⟩, ⟨S128x64, o 7⟩, ⟨S128x64, o 8⟩, ⟨S128x64, o 9⟩, ⟨S128x64, o 10⟩, ⟨S128x64, o 11⟩, ⟨S128x64, o 12⟩, ⟨S128x64, o 13⟩,
      ⟨S128x64, o 14⟩, ⟨S128x64, o 15⟩]
      concatenates_S128x64_S128x64_S128x64_S128x64_S128x64_S128x64_S128x64_S128x64_S128x64_S128x64_S128x64_S128x64_S128x64_S128x64_S128x64_S128x64_S128x1024_d1
      (ix2 t c) = o (c / 64) (ix2 t ⟨c % 64, Nat.mod_lt _ (by decide)⟩) := by
  have hc := c.isLt
  rw [concatenate_apply]
  have h : ∀ l : List (FVec Ideal S128x64 .f32), l = (List.range 16).map o → l[c.val / 64]? = some (o (c.val / 64)) := by
    intro l e
    subst e
    rw [List.getElem?_map, List.getElem?_range (by omega)]
    rfl
  exact cat_at t c _ [o 0, o 1, o 2, o 3, o 4, o 5, o 6, o 7, o 8, o 9, o 10, o 11, o 12, o 13, o 14, o 15] _ c.val _ (h _ rfl)

theorem yPay_entry (o : ℕ → FVec Ideal S128x64 .f32) (wo : FVec Ideal S1024x1024 .bf16) (t : Fin 128) (e : Fin 1024) :
    yPay o wo (ix3 0 t e) = ∑ c : Fin 1024, o (c / 64) (ix2 t ⟨c % 64, Nat.mod_lt _ (by decide)⟩) * wo (ix2 c e) := by
  simp only [← cat_entry]
  unfold yPay
  generalize concatenate S128x1024 1 _ _ = Z
  pointwise []

section
variable {κ : Kind} {sp : Space} (vw : View sig κ sp S4x256x1024 .f32) (f : vw.ty.Contents (Elt Ideal))
variable (k v r la : FVec Ideal S4x256x1024 .f32) (wo : FVec Ideal S1024x1024 .bf16) (s : ℕ → FVec Ideal S1x1x64x64 .f32)

/-- What the result's buffer holds after the first `q` half blocks, at a row one of them wrote. -/
theorem bands_entry (b : Fin 4) (t : Fin 256) (e : Fin 1024) (q : ℕ) (h1 : 2 * b.val + t.val / 128 < q) (h2 : q ≤ 8) :
    vw.read (Elt Ideal) (vw.writes (Elt Ideal) f (bands k v r la wo s q)) (ix3 b t e)
      = yPay (fun h => oHead k v r la (16 * (2 * b.val + t.val / 128) + h) (s (16 * (2 * b.val + t.val / 128) + h))) wo
          (ix3 0 ⟨t % 128, Nat.mod_lt _ (by decide)⟩ e) := by
  have hb4 := b.isLt
  have ht := t.isLt
  induction q with
  | zero => omega
  | succ q ih =>
    by_cases hq : 2 * b.val + t.val / 128 = q
    · subst hq
      refine View.read_writes_cons_unit_of_mem vw f _ _ _ _ (ix3 0 ⟨t % 128, Nat.mod_lt _ (by decide)⟩ e) rfl fun a => ?_
      fin_cases a
      · show b.val = (2 * b.val + t.val / 128) / 2 % 4 + 0
        omega
      · show t.val = (2 * b.val + t.val / 128) % 2 * 128 + t.val % 128
        omega
      · show e.val = 0 + e.val
        omega
    · rw [← ih (by omega) (by omega)]
      by_cases hb : q / 2 = b.val
      · refine View.read_writes_cons_unit_of_not_mem vw f _ _ _ _ rfl 1 ?_
        show t.val < q % 2 * 128 ∨ q % 2 * 128 + 128 ≤ t.val
        omega
      · refine View.read_writes_cons_unit_of_not_mem vw f _ _ _ _ rfl 0 ?_
        show b.val < q / 2 % 4 ∨ q / 2 % 4 + 1 ≤ b.val
        omega

end

section
variable {k v r la : FVec Ideal S4x256x1024 .f32} {o : ℕ} {K V R L : ℕ → ℕ → ℕ → ℝ}

/-- The result's rows, where every step read what `found` says. -/
theorem rows_out {κ : Kind} {sp : Space} (vw : View sig κ sp S4x256x1024 .f32) (f : vw.ty.Contents (Elt Ideal))
    (hL0 : ∀ b t c, L b t c ≤ 0) (hb : ∀ n < 128, ∀ c, -160 ≤ Recur.cum (L (n / 32 % 4)) (org o n) 128 c)
    (hk : Holds k o K) (hv : Holds v o V) (hr : Holds r o R) (hl : Holds la o L) (X0 : FVec Ideal S4x16x64x64 .f32)
    (h0 : IsState X0 L K V o) (wo : FVec Ideal S1024x1024 .bf16) (s : ℕ → FVec Ideal S1x1x64x64 .f32)
    (hs : ∀ n < 128, s n = found k v la X0 n) (b : Fin 4) (t : Fin 256) (e : Fin 1024) :
    vw.read (Elt Ideal) (vw.writes (Elt Ideal) f (bands k v r la wo s 8)) (ix3 b t e)
      = ∑ c : Fin 1024, (Recur.out (headOf L b (c / 64)) (headOf K b (c / 64)) (headOf V b (c / 64)) (headOf R b (c / 64)) (o + t) (c % 64) : EReal)
          * wo (ix2 c e) := by
  have hb4 := b.isLt
  have ht := t.isLt
  rw [bands_entry vw f k v r la wo s b t e 8 (by omega) le_rfl, yPay_entry]
  refine Finset.sum_congr rfl fun c _ => ?_
  have hc := c.isLt
  set n := 16 * (2 * b.val + t.val / 128) + c.val / 64 with hn
  have hn1 : n < 128 := by omega
  rw [hs n hn1, found_out hL0 hb hk hv hr hl X0 h0 hn1]
  have e1 : n / 32 % 4 = b := by omega
  have e2 : n % 16 = c / 64 := by omega
  have e3 : n / 16 % 2 = t / 128 := by omega
  have e4 : t.val / 128 * 128 + t.val % 128 = t.val := by omega
  rw [hd_eq L e1 e2, hd_eq K e1 e2, hd_eq V e1 e2, hd_eq R e1 e2]
  simp only [org, e3, Nat.add_assoc, e4]

end

end Cert.KernelIdeal.Body

end
-- ==== Proof.Step.lean ====
/-
  One grid point's two results over the rows of its block: the state the recurrence reaches and the projected outputs.
-/
module

public import proofs.«01_k».proof.Proof.Block
public import proofs.«01_k».proof.Proof.BodyRun
public import proofs.«01_k».proof.Proof.Gen.KernelIdeal.Frame
public import Idealize.ShloMosaic.Lib.WholeRead

@[expose] public section

set_option maxRecDepth 16384

noncomputable section

namespace Cert.KernelIdeal.Body

open Idealize.ShloMosaic Idealize.ShloMosaic.TcCoe Cert.KernelIdeal Cert.KernelIdeal.Gen Cert.Proof

/-- A load of a whole buffer reads its contents. -/
theorem load_whole {S : Shape} {e : EltTy} (arg : Memref sig .tc .vmem S e) (harg : arg.IsWhole) (x : Vec Ideal S e)
    {off : Fin S.rank → ℕ} (h : off = fun _ => 0) (inb : ∀ a, off a + S.size a ≤ S.size a) :
    View.readAt (Elt Ideal) arg.view (Rect.unit off S.size inb).toLoadRect (harg.unread x) = x := by
  subst h
  funext j
  refine (harg.readAt_unread x _ j).trans (congrArg x ?_)
  exact Rect.emb_whole_apply S j

theorem load3 (arg : Memref sig .tc .vmem S4x256x1024 .f32) (harg : arg.IsWhole) (x : Vec Ideal S4x256x1024 .f32) :
    View.readAt (Elt Ideal) arg.view (Rect.unit ![0, 0, 0] S4x256x1024.size inb_S4x256x1024_S4x256x1024_0_0_0).toLoadRect (harg.unread x) = x :=
  load_whole arg harg x (by decide) _

theorem load2 {e : EltTy} (arg : Memref sig .tc .vmem S1024x1024 e) (harg : arg.IsWhole) (x : Vec Ideal S1024x1024 e) :
    View.readAt (Elt Ideal) arg.view (Rect.unit ![0, 0] S1024x1024.size inb_S1024x1024_S1024x1024_0_0).toLoadRect (harg.unread x) = x :=
  load_whole arg harg x (by decide) _

variable (c : Dev nD) (i : grid0.Coords)
    (arg2 : Memref sig .tc .vmem S4x256x1024 .f32) (harg2 : arg2.IsWhole) (arg3 : Memref sig .tc .vmem S1024x1024 .f32) (harg3 : arg3.IsWhole)
    (arg4 : Memref sig .tc .vmem S1024x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x1024 .bf16) (harg7 : arg7.IsWhole)
    (arg8 : Memref sig .tc .vmem S1024x1024 .bf16) (harg8 : arg8.IsWhole) (arg9 : Memref sig .tc .vmem S4x256x1024 .f32) (harg9 : arg9.IsWhole)
    (arg10 : Memref sig .tc .vmem S4x16x64x64 .f32) (harg10 : arg10.IsWhole)
    (x0 : Vec Ideal S4x256x1024 .f32) (x1 x2 : Vec Ideal S1024x1024 .f32) (x3 x4 x5 x6 : Vec Ideal S1024x1024 .bf16) (xo8 : Vec Ideal S4x16x64x64 .f32)
    {x : Data.Arr} {o : ℕ} (hX : IsRows x0 x o) {Wx Ww Wk Wv Wr Wo : Data.Mat} (hM : Data.Mild x Wx Ww Wk Wv)
    (e1 : x1 = Wx) (e2 : x2 = Ww) (e3 : x3 = Wk) (e4 : x4 = Wv) (e5 : x5 = Wr) (e6 : x6 = Wo)
    (hb : ∀ n < 128, ∀ c, -160 ≤ Recur.cum (Data.Lr x Wx Ww (n / 32 % 4)) (org o n) 128 c)

include hX hM e1 e2 e3 e4 e5 e6 hb

theorem state_A (hc0 : cond0_0 i) (h0 : IsState (k0_pay3 (F := Ideal)) (Data.Lr x Wx Ww) (Data.Pr x Wk) (Data.Pr x Wv) o) :
    IsState (out0_A_8 c i arg2 harg2 arg3 harg3 arg4 harg4 arg5 harg5 arg6 harg6 arg7 harg7 arg8 harg8 arg9 harg9 arg10 harg10 hc0 x0 x1 x2 x3 x4 x5 x6)
      (Data.Lr x Wx Ww) (Data.Pr x Wk) (Data.Pr x Wv) (o + 256) := by
  subst e1 e2 e3 e4 e5 e6
  unfold out0_A_8
  rw [storesA, load3, load2, load2, load2, load2]
  exact state_real (Data.Lr_nonpos hM) hb (k_holds hX hM.wk) (v_holds hX hM.wv) (la_holds hX hM) _ h0 _
    fun n hn hz => blk_final _ _ _ _ _ _ _ _ (fun n hn => rdA_found _ _ _ _ hn) hn hz

theorem state_B (hc0 : ¬cond0_0 i) (h0 : IsState xo8 (Data.Lr x Wx Ww) (Data.Pr x Wk) (Data.Pr x Wv) o) :
    IsState (out0_B_8 c i arg2 harg2 arg3 harg3 arg4 harg4 arg5 harg5 arg6 harg6 arg7 harg7 arg8 harg8 arg9 harg9 arg10 harg10 hc0 x0 x1 x2 x3 x4 x5 x6 xo8)
      (Data.Lr x Wx Ww) (Data.Pr x Wk) (Data.Pr x Wv) (o + 256) := by
  subst e1 e2 e3 e4 e5 e6
  unfold out0_B_8
  rw [storesB, load3, load2, load2, load2, load2]
  exact state_real (Data.Lr_nonpos hM) hb (k_holds hX hM.wk) (v_holds hX hM.wv) (la_holds hX hM) _ h0 _
    fun n hn hz => blk_final _ _ _ _ _ _ _ _ (fun n hn => rdB_found _ _ _ _ _ _ hn) hn hz

/-- The projected output of one step: the heads' rows side by side, times a column of the last weight. -/
abbrev row (x : Data.Arr) (Wx Ww Wk Wv Wr Wo : Data.Mat) (b : Fin 4) (t : ℕ) (e : Fin 1024) : EReal :=
  ∑ q : Fin 1024, (Recur.out (headOf (Data.Lr x Wx Ww) b (q / 64)) (headOf (Data.Pr x Wk) b (q / 64)) (headOf (Data.Pr x Wv) b (q / 64))
    (headOf (Data.Rr x Wr) b (q / 64)) t (q % 64) : EReal) * Wo (ix2 q e)

theorem row_A (hc0 : cond0_0 i) (h0 : IsState (k0_pay3 (F := Ideal)) (Data.Lr x Wx Ww) (Data.Pr x Wk) (Data.Pr x Wv) o) (b : Fin 4) (t : Fin 256) (e : Fin 1024) :
    out0_A_7 c i arg2 harg2 arg3 harg3 arg4 harg4 arg5 harg5 arg6 harg6 arg7 harg7 arg8 harg8 arg9 harg9 arg10 harg10 hc0 x0 x1 x2 x3 x4 x5 x6 (ix3 b t e)
      = row x Wx Ww Wk Wv Wr Wo b (o + t) e := by
  subst e1 e2 e3 e4 e5 e6
  unfold out0_A_7
  rw [bandsA, load3, load2, load2, load2, load2, load2, load2]
  exact rows_out _ _ (Data.Lr_nonpos hM) hb (k_holds hX hM.wk) (v_holds hX hM.wv) (r_holds hX _) (la_holds hX hM) _ h0 _ _
    (fun n hn => rdA_found _ _ _ _ hn) b t e

theorem row_B (hc0 : ¬cond0_0 i) (h0 : IsState xo8 (Data.Lr x Wx Ww) (Data.Pr x Wk) (Data.Pr x Wv) o) (b : Fin 4) (t : Fin 256) (e : Fin 1024) :
    out0_B_7 c i arg2 harg2 arg3 harg3 arg4 harg4 arg5 harg5 arg6 harg6 arg7 harg7 arg8 harg8 arg9 harg9 arg10 harg10 hc0 x0 x1 x2 x3 x4 x5 x6 xo8 (ix3 b t e)
      = row x Wx Ww Wk Wv Wr Wo b (o + t) e := by
  subst e1 e2 e3 e4 e5 e6
  unfold out0_B_7
  rw [bandsB, load3, load2, load2, load2, load2, load2, load2]
  exact rows_out _ _ (Data.Lr_nonpos hM) hb (k_holds hX hM.wk) (v_holds hX hM.wv) (r_holds hX _) (la_holds hX hM) _ h0 _ _
    (fun n hn => rdB_found _ _ _ _ _ _ hn) b t e

end Cert.KernelIdeal.Body

end
-- ==== Proof.Grid.lean ====
/-
  The kernel's two results after its eight grid points.
-/
module

public import proofs.«01_k».proof.Proof.Step
public import proofs.«01_k».proof.Proof.Gen.KernelIdeal.Value

@[expose] public section

set_option maxRecDepth 16384

noncomputable section

namespace Cert.KernelIdeal.Grid

open Idealize.ShloMosaic Idealize.ShloMosaic.TcCoe Cert.KernelIdeal Cert.KernelIdeal.Gen Cert.KernelIdeal.Body Cert.Proof Idealize.SL.Sem

variable (m : (ℓ : Loc nD τ sig) → Buf (Elt Ideal) ℓ) (c : Dev nD)

/-- The tokens, and the weights, as the launch finds them. -/
abbrev xs : Data.Arr := m ((c : Thread nD τ).loc main_arg0)
abbrev wx : Data.Mat := m ((c : Thread nD τ).loc main_arg3)
abbrev ww : Data.Mat := m ((c : Thread nD τ).loc main_arg4)
abbrev wk : Data.Mat := m ((c : Thread nD τ).loc main_arg6)
abbrev wv : Data.Mat := m ((c : Thread nD τ).loc main_arg7)
abbrev wr : Data.Mat := m ((c : Thread nD τ).loc main_arg8)
abbrev wo : Data.Mat := m ((c : Thread nD τ).loc main_arg9)

/-! ## What the windows read -/

theorem host_wk : (V m c main_v0 : Data.Mat) = wk m c := by
  unfold_abbrev_sides
  after_results
  rfl

theorem host_wv : (V m c main_v1 : Data.Mat) = wv m c := by
  unfold_abbrev_sides
  after_results
  rfl

theorem host_wr : (V m c main_v2 : Data.Mat) = wr m c := by
  unfold_abbrev_sides
  after_results
  rfl

theorem host_wo : (V m c main_v3 : Data.Mat) = wo m c := by
  unfold_abbrev_sides
  after_results
  rfl

theorem idx0 (t : Fin cfg0.N) : win0_0.index t 0 = 0 ∧ win0_0.index t 1 = t.val ∧ win0_0.index t 2 = 0 := by
  rcases fin_N0 t with rfl | rfl | rfl | rfl | rfl | rfl | rfl | rfl <;> decide

theorem rows_in (t : Fin cfg0.N) : IsRows (iblk m c 0 t) (xs m c) (256 * t.val) := by
  intro b s q
  obtain ⟨h0, h1, h2⟩ := idx0 t
  have ht : t.val < 8 := lt_of_lt_of_eq t.isLt N_0
  have hs := s.isLt
  refine Eq.trans ?_ (Data.rowAt_fin (xs m c) b ⟨256 * t.val + s.val, by omega⟩ q).symm
  unfold iblk
  rw [View.read_apply]
  show V m c main_arg0 _ = _
  rw [V_main_arg0]
  refine congrArg (xs m c) (funext fun a => Fin.ext ?_)
  match a with
  | ⟨0, _⟩ => show win0_0.index t 0 * 4 + 1 * b.val = b.val; rw [h0]; omega
  | ⟨1, _⟩ => show win0_0.index t 1 * 256 + 1 * s.val = 256 * t.val + s.val; rw [h1]; omega
  | ⟨2, _⟩ => show win0_0.index t 2 * 1024 + 1 * q.val = q.val; rw [h2]; omega

/-- A block that is its whole array has the array's own indices. -/
theorem whole_at (W : Data.Mat) (j k : S1024x1024.Idx) (h0 : (k 0).val = 0 * 1024 + 1 * (j 0).val)
    (h1 : (k 1).val = 0 * 1024 + 1 * (j 1).val) : W k = W j := by
  refine congrArg W (funext fun a => Fin.ext ?_)
  match a with
  | ⟨0, _⟩ => exact h0.trans ((Nat.zero_add _).trans (Nat.one_mul _))
  | ⟨1, _⟩ => exact h1.trans ((Nat.zero_add _).trans (Nat.one_mul _))

theorem w1 (t : Fin cfg0.N) : (iblk m c 1 t : Data.Mat) = wx m c := by
  rw [show wx m c = V m c main_arg3 from (V_main_arg3 m c).symm]
  exact funext fun j => whole_at (V m c main_arg3) j _ rfl rfl

theorem w2 (t : Fin cfg0.N) : (iblk m c 2 t : Data.Mat) = ww m c := by
  rw [show ww m c = V m c main_arg4 from (V_main_arg4 m c).symm]
  exact funext fun j => whole_at (V m c main_arg4) j _ rfl rfl

theorem w3 (t : Fin cfg0.N) : (iblk m c 3 t : Data.Mat) = wk m c := by
  rw [← host_wk m c]
  exact funext fun j => whole_at (V m c main_v0) j _ rfl rfl

theorem w4 (t : Fin cfg0.N) : (iblk m c 4 t : Data.Mat) = wv m c := by
  rw [← host_wv m c]
  exact funext fun j => whole_at (V m c main_v1) j _ rfl rfl

theorem w5 (t : Fin cfg0.N) : (iblk m c 5 t : Data.Mat) = wr m c := by
  rw [← host_wr m c]
  exact funext fun j => whole_at (V m c main_v2) j _ rfl rfl

theorem w6 (t : Fin cfg0.N) : (iblk m c 6 t : Data.Mat) = wo m c := by
  rw [← host_wo m c]
  exact funext fun j => whole_at (V m c main_v3) j _ rfl rfl

/-! ## The state and the rows, point by point -/

/-- The launch's arrays satisfy what the bounds of the body need. -/
abbrev Fine : Prop := Data.Mild (xs m c) (wx m c) (ww m c) (wk m c) (wv m c)

variable {m c} (hM : Fine m c)
include hM

theorem bound (t : Fin cfg0.N) (n : ℕ) (hn : n < 128) (q : ℕ) :
    -160 ≤ Recur.cum (Data.Lr (xs m c) (wx m c) (ww m c) (n / 32 % 4)) (org (256 * t.val) n) 128 q := by
  have ht : t.val < 8 := lt_of_lt_of_eq t.isLt N_0
  rw [show org (256 * t.val) n = 128 * (2 * t.val + n / 16 % 2) by unfold org; omega]
  exact Data.cum_ge hM _ _ _ (by omega) (by omega)

omit hM in
theorem start : IsState (k0_pay3 (F := Ideal)) (Data.Lr (xs m c) (wx m c) (ww m c)) (Data.Pr (xs m c) (wk m c)) (Data.Pr (xs m c) (wv m c)) 0 := by
  intro b h d e
  simp [k0_pay3, Recur.st, broadcast]

/-- The state after point `t`, from the state before it. -/
theorem next_A (t : Fin cfg0.N) (h0 : t.val % 8 = 0)
    (h : IsState (k0_pay3 (F := Ideal)) (Data.Lr (xs m c) (wx m c) (ww m c)) (Data.Pr (xs m c) (wk m c)) (Data.Pr (xs m c) (wv m c)) (256 * t.val)) :
    IsState (outsAt0 m c t.val t.isLt).2 (Data.Lr (xs m c) (wx m c) (ww m c)) (Data.Pr (xs m c) (wk m c)) (Data.Pr (xs m c) (wv m c)) (256 * t.val + 256) := by
  rw [outsAt0_A m c t h0]
  dsimp only
  exact state_A c (grid0.coords t) _ _ _ _ _ _ _ _ _ _ _ _ _ _ _ _ _ _ (iblk m c 0 t) (iblk m c 1 t) (iblk m c 2 t) (iblk m c 3 t) (iblk m c 4 t)
    (iblk m c 5 t) (iblk m c 6 t) (rows_in m c t) hM (w1 m c t) (w2 m c t) (w3 m c t) (w4 m c t) (w5 m c t) (w6 m c t) (bound hM t) ((hcond0_0 t).mpr h0) h

theorem next_B (t : Fin cfg0.N) (h0 : ¬t.val % 8 = 0)
    (h : IsState (outsAt0 m c (t.val - 1) (Nat.lt_of_le_of_lt (Nat.sub_le _ _) t.isLt)).2 (Data.Lr (xs m c) (wx m c) (ww m c)) (Data.Pr (xs m c) (wk m c)) (Data.Pr (xs m c) (wv m c)) (256 * t.val)) :
    IsState (outsAt0 m c t.val t.isLt).2 (Data.Lr (xs m c) (wx m c) (ww m c)) (Data.Pr (xs m c) (wk m c)) (Data.Pr (xs m c) (wv m c)) (256 * t.val + 256) := by
  rw [outsAt0_B m c t h0]
  dsimp only
  exact state_B c (grid0.coords t) _ _ _ _ _ _ _ _ _ _ _ _ _ _ _ _ _ _ (iblk m c 0 t) (iblk m c 1 t) (iblk m c 2 t) (iblk m c 3 t) (iblk m c 4 t)
    (iblk m c 5 t) (iblk m c 6 t) (outsAt0 m c (t.val - 1) (Nat.lt_of_le_of_lt (Nat.sub_le _ _) t.isLt)).2
    (rows_in m c t) hM (w1 m c t) (w2 m c t) (w3 m c t) (w4 m c t) (w5 m c t) (w6 m c t) (bound hM t) (fun h => h0 ((hcond0_0 t).mp h)) h

/-- The state that point `n` leaves is the recurrence's after its last step. -/
theorem reached : ∀ (n : ℕ) (hn : n < cfg0.N), IsState (outsAt0 m c n hn).2 (Data.Lr (xs m c) (wx m c) (ww m c)) (Data.Pr (xs m c) (wk m c)) (Data.Pr (xs m c) (wv m c)) (256 * n + 256)
  | 0, hn => next_A hM ⟨0, hn⟩ rfl start
  | n + 1, hn => by
    have h8 : n + 1 < 8 := lt_of_lt_of_eq hn N_0
    exact next_B hM ⟨n + 1, hn⟩ (show ¬(n + 1) % 8 = 0 by omega) (reached n (Nat.lt_of_succ_lt hn))

/-- The rows that point `t` leaves. -/
theorem rows_A (t : Fin cfg0.N) (h0 : t.val % 8 = 0) (h : IsState (k0_pay3 (F := Ideal)) (Data.Lr (xs m c) (wx m c) (ww m c)) (Data.Pr (xs m c) (wk m c)) (Data.Pr (xs m c) (wv m c)) (256 * t.val)) (b : Fin 4) (s : Fin 256) (e : Fin 1024) :
    (outsAt0 m c t.val t.isLt).1 (ix3 b s e)
      = row (xs m c) (wx m c) (ww m c) (wk m c) (wv m c) (wr m c) (wo m c) b (256 * t.val + s) e := by
  rw [outsAt0_A m c t h0]
  dsimp only
  exact row_A c (grid0.coords t) _ _ _ _ _ _ _ _ _ _ _ _ _ _ _ _ _ _ (iblk m c 0 t) (iblk m c 1 t) (iblk m c 2 t) (iblk m c 3 t) (iblk m c 4 t)
    (iblk m c 5 t) (iblk m c 6 t) (rows_in m c t) hM (w1 m c t) (w2 m c t) (w3 m c t) (w4 m c t) (w5 m c t) (w6 m c t) (bound hM t) ((hcond0_0 t).mpr h0) h b s e

theorem rows_B (t : Fin cfg0.N) (h0 : ¬t.val % 8 = 0) (h : IsState (outsAt0 m c (t.val - 1) (Nat.lt_of_le_of_lt (Nat.sub_le _ _) t.isLt)).2 (Data.Lr (xs m c) (wx m c) (ww m c)) (Data.Pr (xs m c) (wk m c)) (Data.Pr (xs m c) (wv m c)) (256 * t.val)) (b : Fin 4) (s : Fin 256) (e : Fin 1024) :
    (outsAt0 m c t.val t.isLt).1 (ix3 b s e)
      = row (xs m c) (wx m c) (ww m c) (wk m c) (wv m c) (wr m c) (wo m c) b (256 * t.val + s) e := by
  rw [outsAt0_B m c t h0]
  dsimp only
  exact row_B c (grid0.coords t) _ _ _ _ _ _ _ _ _ _ _ _ _ _ _ _ _ _ (iblk m c 0 t) (iblk m c 1 t) (iblk m c 2 t) (iblk m c 3 t) (iblk m c 4 t)
    (iblk m c 5 t) (iblk m c 6 t) (outsAt0 m c (t.val - 1) (Nat.lt_of_le_of_lt (Nat.sub_le _ _) t.isLt)).2
    (rows_in m c t) hM (w1 m c t) (w2 m c t) (w3 m c t) (w4 m c t) (w5 m c t) (w6 m c t) (bound hM t) (fun h => h0 ((hcond0_0 t).mp h)) h b s e

theorem rows_at (t : Fin cfg0.N) (b : Fin 4) (s : Fin 256) (e : Fin 1024) :
    (outsAt0 m c t.val t.isLt).1 (ix3 b s e)
      = row (xs m c) (wx m c) (ww m c) (wk m c) (wv m c) (wr m c) (wo m c) b (256 * t.val + s) e := by
  have ht : t.val < 8 := lt_of_lt_of_eq t.isLt N_0
  by_cases h0 : t.val % 8 = 0
  · refine rows_A hM t h0 ?_ b s e
    rw [show 256 * t.val = 0 by omega]
    exact start
  · refine rows_B hM t h0 ?_ b s e
    have r := reached hM (t.val - 1) (Nat.lt_of_le_of_lt (Nat.sub_le _ _) t.isLt)
    rwa [show 256 * (t.val - 1) + 256 = 256 * t.val by omega] at r

/-! ## The two results after the run -/

omit hM in
theorem idx7 (t : Fin cfg0.N) : win0_7.index t 0 = 0 ∧ win0_7.index t 1 = t.val ∧ win0_7.index t 2 = 0 := by
  rcases fin_N0 t with rfl | rfl | rfl | rfl | rfl | rfl | rfl | rfl <;> decide

theorem final_rows (b : Fin 4) (s : Fin 2048) (e : Fin 1024) :
    (dats m 0 c).arrAt 7 cfg0.N (ix3 b s e)
      = row (xs m c) (wx m c) (ww m c) (wk m c) (wv m c) (wr m c) (wo m c) b s e := by
  have hs := s.isLt
  have hq : s.val / 256 < cfg0.N := lt_of_lt_of_eq (by omega : s.val / 256 < 8) N_0.symm
  obtain ⟨h0, h1, h2⟩ := idx7 ⟨s.val / 256, hq⟩
  have B := congrFun (Value.blocks7 m c ⟨s.val / 256, hq⟩ (flush0_7 _)) (ix3 b ⟨s.val % 256, Nat.mod_lt _ (by decide)⟩ e)
  rw [Value.flushed7] at B
  have R := rows_at hM ⟨s.val / 256, hq⟩ b ⟨s.val % 256, Nat.mod_lt _ (by decide)⟩ e
  rw [show 256 * (s.val / 256) + s.val % 256 = s.val by omega] at R
  refine Eq.trans (congrArg ((dats m 0 c).arrAt 7 cfg0.N) (funext fun a => Fin.ext ?_)) (B.trans R)
  match a with
  | ⟨0, _⟩ => show b.val = win0_7.index _ 0 * 4 + 1 * b.val; rw [h0]; omega
  | ⟨1, _⟩ => show s.val = win0_7.index _ 1 * 256 + 1 * (s.val % 256); rw [h1]; show _ = s.val / 256 * 256 + _; omega
  | ⟨2, _⟩ => show e.val = win0_7.index _ 2 * 1024 + 1 * e.val; rw [h2]; omega

omit hM in
theorem idx8 (t : Fin cfg0.N) : win0_8.index t 0 = 0 ∧ win0_8.index t 1 = 0 ∧ win0_8.index t 2 = 0 ∧ win0_8.index t 3 = 0 := by
  rcases fin_N0 t with rfl | rfl | rfl | rfl | rfl | rfl | rfl | rfl <;> decide

omit hM in
/-- The second result's block is its whole array. -/
theorem emb8 (t : Fin cfg0.N) (j : S4x16x64x64.Idx) : ((cfg0.win 8).blk t).view.emb j = j := by
  funext a
  apply Fin.ext
  match a with
  | ⟨0, _⟩ => show win0_8.index t 0 * 4 + 1 * (j 0).val = (j 0).val; rw [(idx8 t).1]; omega
  | ⟨1, _⟩ => show win0_8.index t 1 * 16 + 1 * (j 1).val = (j 1).val; rw [(idx8 t).2.1]; omega
  | ⟨2, _⟩ => show win0_8.index t 2 * 64 + 1 * (j 2).val = (j 2).val; rw [(idx8 t).2.2.1]; omega
  | ⟨3, _⟩ => show win0_8.index t 3 * 64 + 1 * (j 3).val = (j 3).val; rw [(idx8 t).2.2.2]; omega

theorem final_state (b : Fin 4) (h : Fin 16) (d e : Fin 64) :
    (dats m 0 c).arrAt 8 cfg0.N (ix4 b h d e)
      = (Recur.st (headOf (Data.Lr (xs m c) (wx m c) (ww m c)) b h) (headOf (Data.Pr (xs m c) (wk m c)) b h)
          (headOf (Data.Pr (xs m c) (wv m c)) b h) 2048 d e : EReal) := by
  have h7 : 7 < cfg0.N := lt_of_lt_of_eq (by decide : 7 < 8) N_0.symm
  have hG : ∀ t, (cfg0.win 8).flush t = true → (dats m 0 c).flushed 8 t
      = ((cfg0.win 8).blk t).view.read (Elt Ideal) (outsAt0 m c 7 h7).2 := by
    intro t hf
    have ht : t.val < 8 := lt_of_lt_of_eq t.isLt N_0
    have h8 := (flush0_8 t).mp hf
    obtain rfl : t = ⟨7, h7⟩ := Fin.ext (show t.val = 7 by omega)
    rw [Value.flushed8]
    funext j
    rw [View.read_apply]
    exact congrArg (outsAt0 m c 7 h7).2 (emb8 ⟨7, h7⟩ j).symm
  have hc : ix4 b h d e ∈ ((cfg0.win 8).blk ⟨7, h7⟩).view.set :=
    Eq.mp (congrArg (· ∈ ((cfg0.win 8).blk ⟨7, h7⟩).view.set) (emb8 ⟨7, h7⟩ _)) (((cfg0.win 8).blk ⟨7, h7⟩).view.emb_mem_set (ix4 b h d e))
  refine ((dats m 0 c).arrAt_apply_of_mem 8 _ hG cfg0.N ⟨7, h7⟩ _ h7 ((flush0_8 _).mpr rfl) hc).trans ?_
  exact reached hM 7 h7 b h d e

end Cert.KernelIdeal.Grid

end
-- ==== Proof.RefEntry.lean ====
/-
  What the reference computes before its loop, read at an index: the normalised rows, and the keys, values, gates and
  forget weights that the loop carries in.
-/
module

public import proofs.«01_k».proof.Proof.Gen.ReferenceIdeal.Run
public import proofs.«01_k».proof.Proof.Data
public import proofs.«01_k».proof.Proof.Block
public import Idealize.ShloMosaic.Lib.Pointwise

@[expose] public section

noncomputable section

namespace Cert.ReferenceIdeal.Entry

open Idealize.ShloMosaic Idealize.ShloMosaic.StableHlo Cert.ReferenceIdeal Cert.ReferenceIdeal.Gen Cert.ReferenceIdeal.Value Cert.Proof

abbrev T3 : Type := FVec Ideal S4x2048x1024 .f32
abbrev T1 : Type := FVec Ideal S1024 .f32
abbrev T2 : Type := FVec Ideal S1024x1024 .f32

/-- The mean of every row. -/
def means (x : T3) : FVec Ideal S4x2048x1 .f32 :=
  Host.divf (broadcastInDim S4x2048x1 ![0, 1] bcast_S4x2048_S4x2048x1_0_1
    (Host.reduceAdd x (constant S_ .f32 0x00000000#32) reducesTo_S4x2048x1024_S4x2048_d2 h_S_))
    (broadcastInDim S4x2048x1 ![] bcast_S_S4x2048x1 (constant S_ .f32 0x44800000#32))

/-- Every row less its mean. -/
def centred (x : T3) : T3 := subf x (broadcastInDim S4x2048x1024 ![0, 1, 2] bcast_S4x2048x1_S4x2048x1024_0_1_2 (means x))

/-- The number of entries a row's variance divides by. -/
def count : FVec Ideal S_ .f32 := subf (constant S_ .f32 0x44800000#32) (sitofp .f32 (constantI S_ 32 0#32))

/-- The variance of every row. -/
def variances (x : T3) : FVec Ideal S4x2048x1 .f32 :=
  select (broadcastInDim S4x2048x1 ![] bcast_S_S4x2048x1 (cmpf .ogt count (constant S_ .f32 0x00000000#32)))
    (Host.divf (broadcastInDim S4x2048x1 ![0, 1] bcast_S4x2048_S4x2048x1_0_1
      (Host.reduceAdd (mulf (centred x) (centred x)) (constant S_ .f32 0x00000000#32) reducesTo_S4x2048x1024_S4x2048_d2 h_S_))
      (broadcastInDim S4x2048x1 ![] bcast_S_S4x2048x1 count))
    (broadcastInDim S4x2048x1 ![] bcast_S_S4x2048x1 (constant S_ .f32 0x7FC00000#32))

/-- The normalised rows. -/
def normed (x : T3) (g b : T1) : T3 :=
  addf (mulf (Host.divf (centred x) (broadcastInDim S4x2048x1024 ![0, 1, 2] bcast_S4x2048x1_S4x2048x1024_0_1_2
      (Host.sqrt (addf (variances x) (broadcastInDim S4x2048x1 ![] bcast_S_S4x2048x1 (constant S_ .f32 0x3727C5AC#32))))))
    (broadcastInDim S4x2048x1024 ![0, 1, 2] bcast_S1x1x1024_S4x2048x1024_0_1_2 (broadcastInDim S1x1x1024 ![2] bcast_S1024_S1x1x1024_2 g)))
    (broadcastInDim S4x2048x1024 ![0, 1, 2] bcast_S1x1x1024_S4x2048x1024_0_1_2 (broadcastInDim S1x1x1024 ![2] bcast_S1024_S1x1x1024_2 b))

/-- Rows through a square matrix. -/
def through (x : T3) (w : T2) : T3 := Host.dotGeneral dot_S4x2048x1024_S1024x1024_S4x2048x1024_2_0_01_1_n_n none x w

/-- The logistic function as the reference writes it. -/
def squash (x : T3) : T3 :=
  Host.divf (broadcastInDim S4x2048x1024 ![] bcast_S_S4x2048x1024 (constant S_ .f32 0x3F800000#32))
    (addf (broadcastInDim S4x2048x1024 ![] bcast_S_S4x2048x1024 (constant S_ .f32 0x3F800000#32)) (Host.exp (Host.negf x)))

/-- Channels split into heads, time first. -/
def split (x : T3) : FVec Ideal S2048x4x16x64 .f32 :=
  transpose S2048x4x16x64 [1, 0, 2, 3] (shapeCast S4x2048x16x64 x shapeCasts_S4x2048x1024_S4x2048x16x64) transposes_S4x2048x16x64_S2048x4x16x64_1_0_2_3

variable (m : (ℓ : Loc nD τ sig) → Buf (Elt Ideal) ℓ) (c : Dev nD)

abbrev a0 : T3 := m ((c.tc : Thread nD τ).loc main_arg0)
abbrev a1 : T1 := m ((c.tc : Thread nD τ).loc main_arg1)
abbrev a2 : T1 := m ((c.tc : Thread nD τ).loc main_arg2)
abbrev a3 : T2 := m ((c.tc : Thread nD τ).loc main_arg3)
abbrev a4 : T2 := m ((c.tc : Thread nD τ).loc main_arg4)
abbrev a5 : T1 := m ((c.tc : Thread nD τ).loc main_arg5)
abbrev a6 : T2 := m ((c.tc : Thread nD τ).loc main_arg6)
abbrev a7 : T2 := m ((c.tc : Thread nD τ).loc main_arg7)
abbrev a8 : T2 := m ((c.tc : Thread nD τ).loc main_arg8)
abbrev a9 : T2 := m ((c.tc : Thread nD τ).loc main_arg9)

set_option maxRecDepth 8192
set_option maxHeartbeats 4000000

theorem entry_k : entryContents preI m c (Proc.devRef .tc main_v48_0) = split (through (normed (a0 m c) (a1 m c) (a2 m c)) (a6 m c)) := by
  simp only [entryContents, afterL_cons, afterL_nil]
  after_reads_simp
  rfl

theorem entry_v : entryContents preI m c (Proc.devRef .tc main_v48_1) = split (through (normed (a0 m c) (a1 m c) (a2 m c)) (a7 m c)) := by
  simp only [entryContents, afterL_cons, afterL_nil]
  after_reads_simp
  rfl

theorem entry_w : entryContents preI m c (Proc.devRef .tc main_v48_2)
    = split (squash (addf (through (through (normed (a0 m c) (a1 m c) (a2 m c)) (a3 m c)) (a4 m c))
      (broadcastInDim S4x2048x1024 ![0, 1, 2] bcast_S1x1x1024_S4x2048x1024_0_1_2 (broadcastInDim S1x1x1024 ![2] bcast_S1024_S1x1x1024_2 (a5 m c))))) := by
  simp only [entryContents, afterL_cons, afterL_nil]
  after_reads_simp
  rfl

theorem entry_r : entryContents preI m c (Proc.devRef .tc main_v48_3) = split (squash (through (normed (a0 m c) (a1 m c) (a2 m c)) (a8 m c))) := by
  simp only [entryContents, afterL_cons, afterL_nil]
  after_reads_simp
  rfl

theorem entry_state : entryContents preI m c (Proc.devRef .tc main_v48_5)
    = broadcastInDim S4x16x64x64 ![] bcast_S_S4x16x64x64 (constant (F := Ideal) S_ .f32 0x00000000#32) := by
  simp only [entryContents, afterL_cons, afterL_nil]
  after_reads_simp
  rfl

theorem split_at (x : T3) (t : Fin 2048) (b : Fin 4) (h : Fin 16) (d : Fin 64) :
    split x (ix4 t b h d) = x (ix3 b t ⟨h * 64 + d, by omega⟩) := by
  unfold split
  pointwise

theorem through_at (x : T3) (w : T2) (b : Fin 4) (t : Fin 2048) (e : Fin 1024) :
    through x w (ix3 b t e) = ∑ i : Fin 1024, x (ix3 b t i) * w (ix2 i e) := by
  unfold through
  pointwise

theorem means_at (x : T3) (b : Fin 4) (t : Fin 2048) :
    means x (ix3 b t 0) = Rows.mean (Data.rowAt x b t) := by
  unfold means Rows.mean
  simp only [Data.rowAt_fin]
  pointwise

theorem centred_at (x : T3) (b : Fin 4) (t : Fin 2048) (e : Fin 1024) :
    centred x (ix3 b t e) = x (ix3 b t e) - Rows.mean (Data.rowAt x b t) := by
  rw [← means_at]
  unfold centred
  pointwise

theorem count_at (i : S_.Idx) : count i = ((1024 : ℝ) : EReal) := by
  unfold count
  pointwise
  rw [Rows.ofBits_1024, show (FloatOps.sitofp (F := Ideal) FTy.f32 (0#32) : EReal) = ((0 : ℝ) : EReal) by
    show (((0#32 : BitVec 32).toInt : ℝ) : EReal) = _
    norm_num, ← EReal.coe_sub, sub_zero]

theorem variances_at (x : T3) (b : Fin 4) (t : Fin 2048) :
    variances x (ix3 b t 0) = Ideal.div (∑ e, (Data.rowAt x b t e - Rows.mean (Data.rowAt x b t)) * (Data.rowAt x b t e - Rows.mean (Data.rowAt x b t))) ((1024 : ℝ) : EReal) := by
  unfold variances
  pointwise
  simp only [count_at, centred_at, Data.rowAt_fin]
  rw [if_pos (EReal.coe_pos.mpr (by norm_num))]

theorem squash_at (x : T3) (b : Fin 4) (t : Fin 2048) (e : Fin 1024) :
    squash x (ix3 b t e) = Ideal.logistic (x (ix3 b t e)) := by
  unfold squash
  pointwise
  rfl

/-- The normalised rows, where the scale is one and the shift is zero. -/
theorem normed_at (x : T3) (g s : T1) (hg : ∀ e, g (ix1 e) = 1) (hs : ∀ e, s (ix1 e) = 0) (b : Fin 4) (t : Fin 2048) (e : Fin 1024) :
    normed x g s (ix3 b t e) = Rows.xn (Data.rowAt x b t) e := by
  unfold normed
  pointwise
  rw [hg, hs, mul_one, add_zero, centred_at, variances_at, ← Rows.ofBits_1024]
  refine (Rows.div_sqrt (Data.rowAt x b t) _).trans ?_
  unfold Rows.xn
  rw [Data.rowAt_fin]

/-- A product of the normalised rows with a weight matrix. -/
theorem proj_at (x : T3) (g s : T1) (hg : ∀ e, g (ix1 e) = 1) (hs : ∀ e, s (ix1 e) = 0) (w : T2) (b : Fin 4) (t : Fin 2048) (e : Fin 1024) :
    through (normed x g s) w (ix3 b t e) = Rows.proj (Data.rowAt x b t) (Data.mat w) e := by
  rw [through_at]
  simp only [normed_at x g s hg hs]
  rfl

/-- What the loop carries, read off a valuation: keys, values, forget weights, gates, state and rows out. -/
abbrev cK (V : Valuation τ sig (Elt Ideal)) : S2048x4x16x64.Idx → EReal := V (Proc.devRef .tc main_v48_0)
abbrev cV (V : Valuation τ sig (Elt Ideal)) : S2048x4x16x64.Idx → EReal := V (Proc.devRef .tc main_v48_1)
abbrev cW (V : Valuation τ sig (Elt Ideal)) : S2048x4x16x64.Idx → EReal := V (Proc.devRef .tc main_v48_2)
abbrev cR (V : Valuation τ sig (Elt Ideal)) : S2048x4x16x64.Idx → EReal := V (Proc.devRef .tc main_v48_3)
abbrev cS (V : Valuation τ sig (Elt Ideal)) : S4x16x64x64.Idx → EReal := V (Proc.devRef .tc main_v48_5)
abbrev cO (V : Valuation τ sig (Elt Ideal)) : S2048x4x16x64.Idx → EReal := V (Proc.devRef .tc main_v48_6)

variable {m c}
variable (hg : ∀ e, a1 m c (ix1 e) = 1) (hs : ∀ e, a2 m c (ix1 e) = 0) (hb : ∀ e, a5 m c (ix1 e) = 0)
  (hM : Data.Mild (a0 m c) (a3 m c) (a4 m c) (a6 m c) (a7 m c))
  (t : Fin 2048) (b : Fin 4) (h : Fin 16) (d : Fin 64)
include hg hs hM

theorem k_at : cK (entryContents preI m c) (ix4 t b h d)
    = (Cert.KernelIdeal.Body.headOf (Data.Pr (a0 m c) (a6 m c)) b h t d : EReal) := by
  unfold cK
  rw [entry_k]
  refine (split_at _ t b h d).trans ((proj_at _ _ _ hg hs _ _ _ _).trans ?_)
  unfold Cert.KernelIdeal.Body.headOf
  rw [← Data.Pr_coe hM.wk, show Data.ch (↑h * 64 + ↑d) = ⟨h * 64 + d, by omega⟩ from Data.ch_val ⟨h * 64 + d, by omega⟩]

theorem v_at : cV (entryContents preI m c) (ix4 t b h d)
    = (Cert.KernelIdeal.Body.headOf (Data.Pr (a0 m c) (a7 m c)) b h t d : EReal) := by
  unfold cV
  rw [entry_v]
  refine (split_at _ t b h d).trans ((proj_at _ _ _ hg hs _ _ _ _).trans ?_)
  unfold Cert.KernelIdeal.Body.headOf
  rw [← Data.Pr_coe hM.wv, show Data.ch (↑h * 64 + ↑d) = ⟨h * 64 + d, by omega⟩ from Data.ch_val ⟨h * 64 + d, by omega⟩]

omit hM in
theorem r_at : cR (entryContents preI m c) (ix4 t b h d)
    = (Cert.KernelIdeal.Body.headOf (Data.Rr (a0 m c) (a8 m c)) b h t d : EReal) := by
  unfold cR
  rw [entry_r]
  refine (split_at _ t b h d).trans ((squash_at _ _ _ _).trans ?_)
  unfold Cert.KernelIdeal.Body.headOf
  rw [proj_at _ _ _ hg hs, ← Data.Rr_coe, show Data.ch (↑h * 64 + ↑d) = ⟨h * 64 + d, by omega⟩ from Data.ch_val ⟨h * 64 + d, by omega⟩]

include hb in
theorem w_at : 1 - cW (entryContents preI m c) (ix4 t b h d)
    = (Real.exp (Cert.KernelIdeal.Body.headOf (Data.Lr (a0 m c) (a3 m c) (a4 m c)) b h t d) : EReal) := by
  have e : cW (entryContents preI m c) (ix4 t b h d)
      = Ideal.logistic (Data.zz (a0 m c) (a3 m c) (a4 m c) b t (h * 64 + d)) := by
    unfold cW
    rw [entry_w]
    refine (split_at _ t b h d).trans ((squash_at _ _ _ _).trans ?_)
    congr 1
    pointwise
    rw [hb, add_zero, through_at]
    simp only [proj_at _ _ _ hg hs]
    unfold Data.zz Rows.twice
    rw [show Data.ch (↑h * 64 + ↑d) = ⟨h * 64 + d, by omega⟩ from Data.ch_val ⟨h * 64 + d, by omega⟩]
    rfl
  rw [e]
  exact Data.decay_coe hM _ _ _

omit hg hs hM in
theorem state_at (e : Fin 64) : cS (entryContents preI m c) (ix4 b h d e) = 0 := by
  unfold cS
  rw [entry_state]
  pointwise

end Cert.ReferenceIdeal.Entry
-- ==== Proof.RefLoop.lean ====
/-
  The reference's loop, read at an index: the state before step `n` is the recurrence's, and the rows written so far are
  its outputs.
-/
module

public import proofs.«01_k».proof.Proof.RefEntry
public import proofs.«01_k».proof.Proof.Step

@[expose] public section

noncomputable section

namespace Cert.ReferenceIdeal.Loop

open Idealize.ShloMosaic Idealize.ShloMosaic.StableHlo Cert.ReferenceIdeal Cert.ReferenceIdeal.Gen Cert.ReferenceIdeal.Value Cert.Proof
open Cert.ReferenceIdeal.Entry

set_option maxRecDepth 8192
set_option maxHeartbeats 4000000

variable {V : Valuation τ sig (Elt Ideal)} {n : Fin 2048}

/-- Where a step's slice starts: at the counter's row. -/
def start (i : IVec S_ 32) : Fin 4 → ℤ := fun k => ((![i, constantI S_ 32 0#32, constantI S_ 32 0#32, constantI S_ 32 0#32] : Fin 4 → IVec S_ 32) k (Shape.Idx.first h_S_)).toInt

theorem start_eq (n : Fin 2048) : start (fun _ => BitVec.ofNat 32 n.val) = ![(n.val : ℤ), 0, 0, 0] := by
  funext k
  fin_cases k
  · show (BitVec.ofNat 32 n.val).toInt = n.val
    have := n.isLt
    rw [BitVec.toInt_eq_toNat_cond, BitVec.toNat_ofNat]
    split <;> omega
  · rfl
  · rfl
  · rfl

/-- One step's row of a carried array. -/
def sliceOf (x : FVec Ideal S2048x4x16x64 .f32) (i : IVec S_ 32) : FVec Ideal S4x16x64 .f32 :=
  shapeCast S4x16x64 (Host.dynamicSlice S1x4x16x64 x (start i) sliceFits_S2048x4x16x64_S1x4x16x64) shapeCasts_S1x4x16x64_S4x16x64

/-- A carried array with one step's row replaced. -/
def putAt (x : FVec Ideal S2048x4x16x64 .f32) (u : FVec Ideal S4x16x64 .f32) (i : IVec S_ 32) : FVec Ideal S2048x4x16x64 .f32 :=
  Host.dynamicUpdateSlice x (broadcastInDim S1x4x16x64 ![1, 2, 3] bcast_S4x16x64_S1x4x16x64_1_2_3 u) (start i) updateFits_S2048x4x16x64_S1x4x16x64

theorem clamp (n : Fin 2048) (h : S1x4x16x64.rank = S2048x4x16x64.rank) (k : Fin 4) :
    Host.clampedStart S2048x4x16x64 S1x4x16x64 h ![(n.val : ℤ), 0, 0, 0] k = (![n.val, 0, 0, 0] : Fin 4 → ℕ) k := by
  refine Host.clampedStart_of_le h _ k _ ?_ ?_
  · fin_cases k <;> rfl
  · have := n.isLt
    fin_cases k
    · show n.val + 1 ≤ 2048
      omega
    · show 0 + 4 ≤ 4
      omega
    · show 0 + 16 ≤ 16
      omega
    · show 0 + 64 ≤ 64
      omega

theorem sliceOf_at (x : FVec Ideal S2048x4x16x64 .f32) (b : Fin 4) (h : Fin 16) (d : Fin 64) :
    sliceOf x (fun _ => BitVec.ofNat 32 n.val) (ix3 b h d) = x (ix4 n b h d) := by
  unfold sliceOf
  rw [start_eq]
  pointwise
  have c0 : Host.clampedStart S2048x4x16x64 S1x4x16x64 rfl ![(n.val : ℤ), 0, 0, 0] 0 = n.val := clamp n rfl 0
  have c1 : Host.clampedStart S2048x4x16x64 S1x4x16x64 rfl ![(n.val : ℤ), 0, 0, 0] 1 = 0 := clamp n rfl 1
  have c2 : Host.clampedStart S2048x4x16x64 S1x4x16x64 rfl ![(n.val : ℤ), 0, 0, 0] 2 = 0 := clamp n rfl 2
  have c3 : Host.clampedStart S2048x4x16x64 S1x4x16x64 rfl ![(n.val : ℤ), 0, 0, 0] 3 = 0 := clamp n rfl 3
  congr 2
  · exact Fin.ext c0
  · refine Fin.ext ?_
    show Host.clampedStart S2048x4x16x64 S1x4x16x64 rfl ![(n.val : ℤ), 0, 0, 0] 1 + b.val = b.val
    omega
  · refine Fin.ext ?_
    show Host.clampedStart S2048x4x16x64 S1x4x16x64 rfl ![(n.val : ℤ), 0, 0, 0] 2 + h.val = h.val
    omega
  · refine Fin.ext ?_
    show Host.clampedStart S2048x4x16x64 S1x4x16x64 rfl ![(n.val : ℤ), 0, 0, 0] 3 + d.val = d.val
    omega

theorem putAt_at (x : FVec Ideal S2048x4x16x64 .f32) (u : FVec Ideal S4x16x64 .f32) (t : Fin 2048) (b : Fin 4) (h : Fin 16) (d : Fin 64) :
    putAt x u (fun _ => BitVec.ofNat 32 n.val) (ix4 t b h d) = if t = n then u (ix3 b h d) else x (ix4 t b h d) := by
  unfold putAt
  rw [start_eq]
  pointwise
  have c0 : Host.clampedStart S2048x4x16x64 S1x4x16x64 rfl ![(n.val : ℤ), 0, 0, 0] 0 = n.val := clamp n rfl 0
  have c1 : Host.clampedStart S2048x4x16x64 S1x4x16x64 rfl ![(n.val : ℤ), 0, 0, 0] 1 = 0 := clamp n rfl 1
  have c2 : Host.clampedStart S2048x4x16x64 S1x4x16x64 rfl ![(n.val : ℤ), 0, 0, 0] 2 = 0 := clamp n rfl 2
  have c3 : Host.clampedStart S2048x4x16x64 S1x4x16x64 rfl ![(n.val : ℤ), 0, 0, 0] 3 = 0 := clamp n rfl 3
  by_cases ht : t = n
  · rw [if_pos ht, dif_pos (by subst ht; omega)]
    congr 2
  · rw [if_neg ht, dif_neg (fun hh => ht (Fin.ext (by omega)))]

def newState (V : Valuation τ sig (Elt Ideal)) : S4x16x64x64.Idx → EReal := res_main_while0b_v66 V

def mk (w k v : FVec Ideal S4x16x64 .f32) (s : FVec Ideal S4x16x64x64 .f32) : FVec Ideal S4x16x64x64 .f32 :=
  addf (mulf (broadcastInDim S4x16x64x64 ![0, 1, 2, 3] bcast_S4x16x64x1_S4x16x64x64_0_1_2_3 (broadcastInDim S4x16x64x1 ![0, 1, 2] bcast_S4x16x64_S4x16x64x1_0_1_2 (subf (broadcastInDim S4x16x64 ![] bcast_S_S4x16x64 (constant S_ .f32 0x3F800000#32)) w))) s)
    (mulf (broadcastInDim S4x16x64x64 ![0, 1, 2, 3] bcast_S4x16x64x1_S4x16x64x64_0_1_2_3 (broadcastInDim S4x16x64x1 ![0, 1, 2] bcast_S4x16x64_S4x16x64x1_0_1_2 k))
      (broadcastInDim S4x16x64x64 ![0, 1, 2, 3] bcast_S4x16x1x64_S4x16x64x64_0_1_2_3 (broadcastInDim S4x16x1x64 ![0, 1, 3] bcast_S4x16x64_S4x16x1x64_0_1_3 v)))

theorem mk_at (w k v : FVec Ideal S4x16x64 .f32) (s : FVec Ideal S4x16x64x64 .f32) (b : Fin 4) (h : Fin 16) (d e : Fin 64) :
    mk w k v s (ix4 b h d e) = (1 - w (ix3 b h d)) * s (ix4 b h d e) + k (ix3 b h d) * v (ix3 b h e) := by
  unfold mk
  pointwise

abbrev cC (V : Valuation τ sig (Elt Ideal)) : IVec S_ 32 := V (Proc.devRef .tc main_v48_4)

theorem state_eq (V : Valuation τ sig (Elt Ideal)) : newState V = mk (sliceOf (cW V) (cC V)) (sliceOf (cK V) (cC V)) (sliceOf (cV V) (cC V)) (cS V) := rfl

theorem state_step (hi : cC V = fun _ => BitVec.ofNat 32 n.val) (b : Fin 4) (h : Fin 16) (d e : Fin 64) :
    newState V (ix4 b h d e) = (1 - cW V (ix4 n b h d)) * cS V (ix4 b h d e) + cK V (ix4 n b h d) * cV V (ix4 n b h e) := by
  rw [state_eq, mk_at, hi, sliceOf_at, sliceOf_at, sliceOf_at]

def readOut (r : FVec Ideal S4x16x64 .f32) (s : FVec Ideal S4x16x64x64 .f32) : FVec Ideal S4x16x64 .f32 :=
  Host.dotGeneral dot_S4x16x64_S4x16x64x64_S4x16x64_2_2_n_3_01_01 none r s

theorem readOut_at (r : FVec Ideal S4x16x64 .f32) (s : FVec Ideal S4x16x64x64 .f32) (b : Fin 4) (h : Fin 16) (e : Fin 64) :
    readOut r s (ix3 b h e) = ∑ d : Fin 64, r (ix3 b h d) * s (ix4 b h d e) := by
  unfold readOut
  pointwise

theorem out_eq (V : Valuation τ sig (Elt Ideal)) : (step_main_v48_6 V : S2048x4x16x64.Idx → EReal) = putAt (cO V) (readOut (sliceOf (cR V) (cC V)) (newState V)) (cC V) := rfl

theorem out_step (hi : cC V = fun _ => BitVec.ofNat 32 n.val) (t : Fin 2048) (b : Fin 4) (h : Fin 16) (e : Fin 64) :
    (step_main_v48_6 V : S2048x4x16x64.Idx → EReal) (ix4 t b h e)
      = if t = n then ∑ d : Fin 64, cR V (ix4 n b h d) * newState V (ix4 b h d e) else cO V (ix4 t b h e) := by
  rw [out_eq, hi, putAt_at, readOut_at]
  simp only [sliceOf_at]

theorem cC_succ (hi : cC V = fun _ => BitVec.ofNat 32 n.val) : cC (STEP V) = fun _ => BitVec.ofNat 32 (n.val + 1) := by
  unfold cC at *
  rw [STEP_main_v48_4]
  unfold step_main_v48_4
  rw [hi]
  funext i
  show BitVec.ofNat 32 n.val + 1#32 = _
  rw [BitVec.ofNat_add]

variable (m : (ℓ : Loc nD τ sig) → Buf (Elt Ideal) ℓ) (c : Dev nD)

/-- The loop's contents before step `n`. -/
abbrev at_ (n : ℕ) : Valuation τ sig (Elt Ideal) := STEP^[n] (entryContents preI m c)

theorem at_succ (n : ℕ) : at_ m c (n + 1) = STEP (at_ m c n) := Function.iterate_succ_apply' STEP n _

theorem at_K (n : ℕ) : cK (at_ m c n) = cK (entryContents preI m c) := by
  induction n with
  | zero => rfl
  | succ n ih => rw [at_succ]; exact (STEP_main_v48_0 _).trans ih

theorem at_V (n : ℕ) : cV (at_ m c n) = cV (entryContents preI m c) := by
  induction n with
  | zero => rfl
  | succ n ih => rw [at_succ]; exact (STEP_main_v48_1 _).trans ih

theorem at_W (n : ℕ) : cW (at_ m c n) = cW (entryContents preI m c) := by
  induction n with
  | zero => rfl
  | succ n ih => rw [at_succ]; exact (STEP_main_v48_2 _).trans ih

theorem at_R (n : ℕ) : cR (at_ m c n) = cR (entryContents preI m c) := by
  induction n with
  | zero => rfl
  | succ n ih => rw [at_succ]; exact (STEP_main_v48_3 _).trans ih

theorem at_C (n : ℕ) (hn : n ≤ 2048) : cC (at_ m c n) = fun _ => BitVec.ofNat 32 n := by
  induction n with
  | zero => exact ctr_entry m c
  | succ n ih => rw [at_succ]; exact cC_succ (n := ⟨n, hn⟩) (ih (Nat.le_of_lt hn))

open Cert.KernelIdeal.Body (headOf)

variable {m c}
variable (hg : ∀ e, a1 m c (ix1 e) = 1) (hs : ∀ e, a2 m c (ix1 e) = 0) (hb : ∀ e, a5 m c (ix1 e) = 0)
  (hM : Data.Mild (a0 m c) (a3 m c) (a4 m c) (a6 m c) (a7 m c))
include hg hs hb hM

/-- The recurrence's state of one batch and head. -/
abbrev stOf (m : (ℓ : Loc nD τ sig) → Buf (Elt Ideal) ℓ) (c : Dev nD) (b : Fin 4) (h : Fin 16) : ℕ → ℕ → ℕ → ℝ :=
  Recur.st (headOf (Data.Lr (a0 m c) (a3 m c) (a4 m c)) b h) (headOf (Data.Pr (a0 m c) (a6 m c)) b h) (headOf (Data.Pr (a0 m c) (a7 m c)) b h)

/-- What a step makes of the recurrence's state. -/
theorem new_at (n : Fin 2048) (ih : ∀ (b : Fin 4) (h : Fin 16) (d e : Fin 64), cS (at_ m c n) (ix4 b h d e) = (stOf m c b h n d e : EReal))
    (b : Fin 4) (h : Fin 16) (d e : Fin 64) : newState (at_ m c n) (ix4 b h d e) = (stOf m c b h (n + 1) d e : EReal) := by
  rw [state_step (at_C m c n n.isLt.le), at_W, at_K, at_V, w_at hg hs hb hM, k_at hg hs hM, v_at hg hs hM, ih,
    ← EReal.coe_mul, ← EReal.coe_mul, ← EReal.coe_add]
  rfl

theorem at_S (n : ℕ) (hn : n ≤ 2048) (b : Fin 4) (h : Fin 16) (d e : Fin 64) : cS (at_ m c n) (ix4 b h d e) = (stOf m c b h n d e : EReal) := by
  induction n generalizing b h d e with
  | zero => exact state_at b h d e
  | succ n ih =>
    rw [at_succ]
    refine (congrFun (STEP_main_v48_5 _) _).trans ?_
    exact new_at hg hs hb hM ⟨n, hn⟩ (ih (Nat.le_of_lt hn)) b h d e

theorem at_O (n : ℕ) (hn : n ≤ 2048) (t : Fin 2048) (ht : t.val < n) (b : Fin 4) (h : Fin 16) (e : Fin 64) :
    cO (at_ m c n) (ix4 t b h e)
      = (Recur.out (headOf (Data.Lr (a0 m c) (a3 m c) (a4 m c)) b h) (headOf (Data.Pr (a0 m c) (a6 m c)) b h) (headOf (Data.Pr (a0 m c) (a7 m c)) b h)
          (headOf (Data.Rr (a0 m c) (a8 m c)) b h) t e : EReal) := by
  induction n with
  | zero => omega
  | succ n ih =>
    rw [at_succ]
    have h1 : cO (STEP (at_ m c n)) (ix4 t b h e)
        = if t = ⟨n, hn⟩ then ∑ d : Fin 64, cR (at_ m c n) (ix4 (⟨n, hn⟩ : Fin 2048) b h d) * newState (at_ m c n) (ix4 b h d e) else cO (at_ m c n) (ix4 t b h e) :=
      (congrFun (STEP_main_v48_6 _) _).trans (out_step (n := ⟨n, hn⟩) (at_C m c n (Nat.le_of_lt hn)) t b h e)
    rw [h1]
    by_cases e1 : t = ⟨n, hn⟩
    · rw [if_pos e1, at_R]
      subst e1
      unfold Recur.out
      rw [Recur.coe_sum]
      refine Finset.sum_congr rfl fun d _ => ?_
      rw [r_at hg hs, EReal.coe_mul]
      congr 1
      exact new_at hg hs hb hM ⟨n, hn⟩ (fun b h d e => at_S hg hs hb hM n (Nat.le_of_lt hn) b h d e) b h d e
    · rw [if_neg e1]
      have : t.val ≠ n := fun hh => e1 (Fin.ext hh)
      exact ih (Nat.le_of_lt hn) (by omega)

/-- Heads joined to channels, batch first. -/
def join (x : FVec Ideal S2048x4x16x64 .f32) : FVec Ideal S4x2048x1024 .f32 :=
  shapeCast S4x2048x1024 (transpose S4x2048x16x64 [1, 0, 2, 3] x transposes_S2048x4x16x64_S4x2048x16x64_1_0_2_3) shapeCasts_S4x2048x16x64_S4x2048x1024

omit hg hs hb hM in
theorem join_at (x : FVec Ideal S2048x4x16x64 .f32) (b : Fin 4) (t : Fin 2048) (q : Fin 1024) :
    join x (ix3 b t q) = x (ix4 t b ⟨q / 64, by omega⟩ ⟨q % 64, by omega⟩) := by
  unfold join
  pointwise

/-- The rows the reference returns. -/
theorem rows_at (b : Fin 4) (t : Fin 2048) (e : Fin 1024) : (out_main_v51 (at_ m c 2048) : S4x2048x1024.Idx → EReal) (ix3 b t e)
    = Cert.KernelIdeal.Body.row (a0 m c) (a3 m c) (a4 m c) (a6 m c) (a7 m c) (a8 m c) (a9 m c) b t e := by
  have h9 : (at_ m c 2048 (Proc.devRef .tc main_arg9) : S1024x1024.Idx → EReal) = a9 m c := iter_main_arg9 m c 2048
  show (through (join (cO (at_ m c 2048))) (at_ m c 2048 (Proc.devRef .tc main_arg9)) (ix3 b t e) : EReal) = _
  rw [through_at, h9]
  refine Finset.sum_congr rfl fun q _ => ?_
  rw [join_at, at_O hg hs hb hM 2048 le_rfl t t.isLt]

end Cert.ReferenceIdeal.Loop
-- ==== Proof.PreRead.lean ====
/-
  What the precondition says, read off its printed function.
-/
module

public import proofs.«01_k».proof.Proof.RefEntry
public import proofs.«01_k».proof.Defs
public import Idealize.ShloMosaic.Lib.ReduceAll

@[expose] public section

noncomputable section

namespace Cert.Proof.PreRead

open Idealize.ShloMosaic Cert.Proof Cert.ReferenceIdeal.Entry

instance facts : Cert.Pre_plain_norm_and_moderate_decay.Facts where
  bcast_S_S1024 := by decide
  reducesTo_S1024_S_d0 := by decide
  h_S_ := by decide
  bcast_S_S1024x1024 := by decide
  reducesTo_S1024x1024_S_d0_1 := by decide
  reducesTo_S4x2048x1024_S4x2048_d2 := by decide
  bcast_S4x2048_S4x2048x1_0_1 := by decide
  bcast_S_S4x2048x1 := by decide
  bcast_S4x2048x1_S4x2048x1024_0_1_2 := by decide
  bcast_S1024_S1x1x1024_2 := by decide
  bcast_S1x1x1024_S4x2048x1024_0_1_2 := by decide
  shapeCasts_S4x2048x1024_S4x16x128x1024 := by decide
  reducesTo_S4x16x128x1024_S4x16x1024_d2 := by decide
  bcast_S_S4x16x1024 := by decide
  reducesTo_S4x16x1024_S_d0_1_2 := by decide
  dot_S4x2048x1024_S1024x1024_S4x2048x1024_2_0_01_1_n_n_wf := by decide

open Cert.Pre_plain_norm_and_moderate_decay Cert.Pre_plain_norm_and_moderate_decay.Facts

set_option maxRecDepth 8192
set_option maxHeartbeats 4000000

/-- Every entry of a flag array is set. -/
def all1 {s : Shape} {axes : List (Fin s.rank)} (x : IVec s 1) (h : s.ReducesTo axes S_) : IVec S_ 1 := Host.reduce IntOp.andi x (constantI S_ 1 1#1) h h_S_

theorem and_one (a b : BitVec 1) (h : a &&& b = 1#1) : a = 1#1 ∧ b = 1#1 := by revert a b; decide

/-- An array of scalars that are one value. -/
def isVal (x : T1) (w : BitVec 32) : IVec S1024 1 := cmpf .oeq x (broadcastInDim S1024 ![] bcast_S_S1024 (constant S_ .f32 w))

/-- Where a matrix is finite. -/
def isFin (x : T2) : IVec S1024x1024 1 := cmpf .olt (Host.absf x) (broadcastInDim S1024x1024 ![] bcast_S_S1024x1024 (constant S_ .f32 0x7F800000#32))

/-- The decays of every step. -/
def rates (x : T3) (b : T1) : T3 :=
  Host.log1p (Host.exp (addf x (broadcastInDim S4x2048x1024 ![0, 1, 2] bcast_S1x1x1024_S4x2048x1024_0_1_2 (broadcastInDim S1x1x1024 ![2] bcast_S1024_S1x1x1024_2 b))))

/-- Where a piece of 128 steps decays moderately. -/
def isMild (r : T3) : IVec S4x16x1024 1 :=
  cmpf .ole (Host.reduceAdd (shapeCast S4x16x128x1024 r shapeCasts_S4x2048x1024_S4x16x128x1024) (constant S_ .f32 0x00000000#32) reducesTo_S4x16x128x1024_S4x16x1024_d2 h_S_)
    (broadcastInDim S4x16x1024 ![] bcast_S_S4x16x1024 (constant S_ .f32 0x43200000#32))

theorem fn_eq (x : T3) (g s : T1) (wx ww : T2) (b : T1) (wk wv wr wo : T2) :
    fn (F := Ideal) x g s wx ww b wk wv wr wo
      = andi (andi (andi (andi (all1 (isVal g 0x3F800000#32) reducesTo_S1024_S_d0) (all1 (isVal s 0x00000000#32) reducesTo_S1024_S_d0)) (all1 (isVal b 0x00000000#32) reducesTo_S1024_S_d0))
          (andi (all1 (isFin wk) reducesTo_S1024x1024_S_d0_1) (all1 (isFin wv) reducesTo_S1024x1024_S_d0_1)))
        (all1 (isMild (rates (through (through (normed x g s) wx) ww) b)) reducesTo_S4x16x1024_S_d0_1_2) := rfl

instance : Subsingleton S_.Idx := ⟨fun a b => funext fun k => k.elim0⟩

theorem all1_at {s : Shape} {axes : List (Fin s.rank)} (x : IVec s 1) (h : s.ReducesTo axes S_) (j : S_.Idx) (e : all1 x h j = 1#1) (i : s.Idx) : x i = 1#1 :=
  Host.reduce_andi_all x _ h h_S_ j e i

/-- A set flag's proposition holds. -/
theorem of_true {p : Prop} [Decidable p] (h : BitVec.ofBool (decide p) = 1#1) : p := by
  by_contra hp
  rw [decide_eq_false hp] at h
  exact absurd h (by decide)

theorem isVal_at (x : T1) (w : BitVec 32) (e : Fin 1024) (h : isVal x w (ix1 e) = 1#1) : x (ix1 e) = Ideal.ofBits .f32 w := by
  revert h
  unfold isVal
  pointwise
  exact of_true

theorem isFin_at (x : T2) (i j : Fin 1024) (h : isFin x (ix2 i j) = 1#1) : Rows.IsReal (x (ix2 i j)) := by
  revert h
  unfold isFin
  pointwise
  intro h
  have h1 := of_true h
  rw [show Ideal.ofBits FTy.f32 2139095040#32 = ⊤ by simp [Ideal.ofBits, Ideal.ieee]] at h1
  refine Rows.isReal_of_ne (fun hb => ?_) (fun ht => ?_)
  · rw [hb] at h1
    exact lt_irrefl _ h1
  · rw [ht] at h1
    exact lt_irrefl _ h1

theorem isMild_at (x : T3) (b : Fin 4) (j : Fin 16) (e : Fin 1024) (h : isMild x (ix3 b j e) = 1#1) : ∑ s : Fin 128, x (ix3 b ⟨128 * j + s, by omega⟩ e) ≤ ((160 : ℝ) : EReal) := by
  revert h
  unfold isMild
  pointwise
  intro h
  have h1 := of_true h
  rw [show Ideal.ofBits FTy.f32 1126170624#32 = ((160 : ℝ) : EReal) by
    simp [Ideal.ofBits, Ideal.ieee, -EReal.coe_mul]
    norm_num] at h1
  refine le_trans (le_of_eq (Finset.sum_congr rfl fun s _ => ?_)) h1
  congr 2
  exact Fin.ext (by show 128 * j.val + s.val = j.val * 128 + s.val; omega)

theorem rates_at (x : T3) (g : T1) (b : Fin 4) (t : Fin 2048) (e : Fin 1024) : rates x g (ix3 b t e) = Ideal.log1p (Ideal.exp (x (ix3 b t e) + g (ix1 e))) := by
  unfold rates
  pointwise

theorem ofBits_one : Ideal.ofBits .f32 0x3F800000#32 = 1 := by
  simp [Ideal.ofBits, Ideal.ieee, -EReal.coe_mul]
  norm_num
theorem ofBits_zero : Ideal.ofBits .f32 0x00000000#32 = 0 := by
  simp [Ideal.ofBits, Ideal.ieee]

/-- What the precondition says of its arguments. -/
theorem read (x : T3) (g s : T1) (wx ww : T2) (b : T1) (wk wv wr wo : T2)
    (h : fn (F := Ideal) x g s wx ww b wk wv wr wo = fun _ => 1#1) :
    (∀ e, g (ix1 e) = 1) ∧ (∀ e, s (ix1 e) = 0) ∧ (∀ e, b (ix1 e) = 0) ∧ Data.Mild x wx ww wk wv := by
  rw [fn_eq] at h
  have h0 := congrFun h (Shape.Idx.first h_S_)
  obtain ⟨h1, hD⟩ := and_one _ _ h0
  obtain ⟨h2, hF⟩ := and_one _ _ h1
  obtain ⟨h3, hB⟩ := and_one _ _ h2
  obtain ⟨hG, hS⟩ := and_one _ _ h3
  obtain ⟨hK, hV⟩ := and_one _ _ hF
  have eG : ∀ e, g (ix1 e) = 1 := fun e => (isVal_at g _ e (all1_at _ _ _ hG _)).trans ofBits_one
  have eS : ∀ e, s (ix1 e) = 0 := fun e => (isVal_at s _ e (all1_at _ _ _ hS _)).trans ofBits_zero
  have eB : ∀ e, b (ix1 e) = 0 := fun e => (isVal_at b _ e (all1_at _ _ _ hB _)).trans ofBits_zero
  refine ⟨eG, eS, eB, fun i j => isFin_at _ _ _ (all1_at _ _ _ hK _), fun i j => isFin_at _ _ _ (all1_at _ _ _ hV _), fun n j c => ?_⟩
  refine le_trans (le_of_eq (Finset.sum_congr rfl fun t _ => ?_)) (isMild_at _ n j c (all1_at _ _ _ hD _))
  rw [rates_at, eB, add_zero, through_at]
  simp only [proj_at x g s eG eS]
  unfold Data.zz Rows.twice
  rw [Data.ch_val]
  rfl

end Cert.Proof.PreRead
-- ==== Proof.Agree.lean ====
/-
  Kernel and reference agree: both results, entry by entry, are the recurrence's.
-/
module

public import proofs.«01_k».proof.Proof.Grid
public import proofs.«01_k».proof.Proof.RefLoop
public import proofs.«01_k».proof.Proof.PreRead

@[expose] public section

noncomputable section

namespace Cert.Proof.Agree

open Idealize.ShloMosaic Idealize.SL.Sem Cert.Proof

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The reference starts from the kernel's arguments on one device. -/
abbrev SameArgs : Prop :=
      m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)

variable {m m' c}

theorem ext3 {f g : (⟨3, ![4, 2048, 1024]⟩ : Shape).Idx → EReal} (h : ∀ b s e, f (ix3 b s e) = g (ix3 b s e)) : f = g :=
  funext fun j => by rw [eq_ix3 j]; exact h _ _ _

theorem ext4 {f g : (⟨4, ![4, 16, 64, 64]⟩ : Shape).Idx → EReal} (h : ∀ b h d e, f (ix4 b h d e) = g (ix4 b h d e)) : f = g :=
  funext fun j => by rw [eq_ix4 j]; exact h _ _ _ _

/-- What one device's precondition and arguments give: the two results agree there. -/
theorem results (hP : Pre_KernelIdeal_plain_norm_and_moderate_decay m) (hA : SameArgs m m' c) :
    ReferenceIdeal.Value.out_main_v51 (ReferenceIdeal.Loop.at_ m' c 2048)
        = ((KernelIdeal.Gen.dats m 0 c).arrAt 7 KernelIdeal.cfg0.N : (⟨3, ![4, 2048, 1024]⟩ : Shape).Idx → EReal)
      ∧ ReferenceIdeal.Entry.cS (ReferenceIdeal.Loop.at_ m' c 2048)
        = ((KernelIdeal.Gen.dats m 0 c).arrAt 8 KernelIdeal.cfg0.N : (⟨4, ![4, 16, 64, 64]⟩ : Shape).Idx → EReal) := by
  obtain ⟨h0, h1, h2, h3, h4, h5, h6, h7, h8, h9⟩ := hA
  obtain ⟨hg, hs, hb, hM⟩ := PreRead.read _ _ _ _ _ _ _ _ _ _ (hP c)
  have e0 : ReferenceIdeal.Entry.a0 m' c = KernelIdeal.Grid.xs m c := h0
  have e3 : ReferenceIdeal.Entry.a3 m' c = KernelIdeal.Grid.wx m c := h3
  have e4 : ReferenceIdeal.Entry.a4 m' c = KernelIdeal.Grid.ww m c := h4
  have e6 : ReferenceIdeal.Entry.a6 m' c = KernelIdeal.Grid.wk m c := h6
  have e7 : ReferenceIdeal.Entry.a7 m' c = KernelIdeal.Grid.wv m c := h7
  have e8 : ReferenceIdeal.Entry.a8 m' c = KernelIdeal.Grid.wr m c := h8
  have e9 : ReferenceIdeal.Entry.a9 m' c = KernelIdeal.Grid.wo m c := h9
  have kg : ∀ e, ReferenceIdeal.Entry.a1 m' c (ix1 e) = 1 := fun e => (congrFun h1 (ix1 e)).trans (hg e)
  have ks : ∀ e, ReferenceIdeal.Entry.a2 m' c (ix1 e) = 0 := fun e => (congrFun h2 (ix1 e)).trans (hs e)
  have kb : ∀ e, ReferenceIdeal.Entry.a5 m' c (ix1 e) = 0 := fun e => (congrFun h5 (ix1 e)).trans (hb e)
  have hF : KernelIdeal.Grid.Fine m c := hM
  have kM : Data.Mild (ReferenceIdeal.Entry.a0 m' c) (ReferenceIdeal.Entry.a3 m' c) (ReferenceIdeal.Entry.a4 m' c)
      (ReferenceIdeal.Entry.a6 m' c) (ReferenceIdeal.Entry.a7 m' c) := by
    rw [e0, e3, e4, e6, e7]
    exact hF
  constructor
  · refine ext3 fun b s e => ?_
    refine (ReferenceIdeal.Loop.rows_at kg ks kb kM b s e).trans ?_
    rw [e0, e3, e4, e6, e7, e8, e9]
    exact (KernelIdeal.Grid.final_rows hF b s e).symm
  · refine ext4 fun b h d e => ?_
    refine (ReferenceIdeal.Loop.at_S kg ks kb kM 2048 le_rfl b h d e).trans ?_
    unfold ReferenceIdeal.Loop.stOf
    rw [e0, e3, e4, e6, e7]
    exact (KernelIdeal.Grid.final_state hF b h d e).symm

end Cert.Proof.Agree
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.RefFrame
public import proofs.«01_k».proof.Proof.Agree
public import Idealize.ShloMosaic.Adequacy
public import Idealize.ShloMosaic.Init

@[expose] public section

noncomputable section

namespace Cert.Proof

open Idealize.ShloMosaic Idealize.SL.Sem

/-- Both programs run and end with equal results: the kernel's, which the reference's equal. -/
theorem algebraic : Cert.algebraic_KernelIdeal_ReferenceIdeal_pre_plain_norm_and_moderate_decay := fun m g m' g' hP hA =>
  ⟨fun c => (KernelIdeal.Gen.dats m 0 c).arrAt 7 KernelIdeal.cfg0.N, fun c => (KernelIdeal.Gen.dats m 0 c).arrAt 8 KernelIdeal.cfg0.N,
    KernelIdeal.Value.run_blocks m g,
    (θ_run ReferenceIdeal.defs _ _).mono
      (fun _ h c => ⟨(h c).1.trans (Agree.results hP (hA c)).1, (h c).2.1.trans (Agree.results hP (hA c)).2, (h c).2.2⟩)
      (ReferenceIdeal.Value.run m' g')⟩

theorem claim : Cert.Claim := ⟨Cert.Kernel.Gen.facts, Cert.KernelIdeal.Gen.facts, Cert.ReferenceIdeal.Gen.facts, PreRead.facts,
  fun m g _ => Cert.Kernel.Gen.frame m g, fun m g _ => Cert.KernelIdeal.Gen.frame m g, fun m g _ => Cert.KernelIdeal.Gen.frame m g,
  fun m g _ => RefFrame.frame m g, fun m g _ => RefFrame.frame m g, trivial, algebraic⟩

end Cert.Proof

end
